-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x900x256 : Shape := ⟨3, ![16, 900, 256]⟩
abbrev S16x900x4 : Shape := ⟨3, ![16, 900, 4]⟩
abbrev S16x4x900 : Shape := ⟨3, ![16, 4, 900]⟩
abbrev S16x900x2 : Shape := ⟨3, ![16, 900, 2]⟩
abbrev S1x900x4 : Shape := ⟨3, ![1, 900, 4]⟩
abbrev S1x4x900 : Shape := ⟨3, ![1, 4, 900]⟩
abbrev S1x900x2 : Shape := ⟨3, ![1, 900, 2]⟩
abbrev S900x4 : Shape := ⟨2, ![900, 4]⟩
abbrev S4x900 : Shape := ⟨2, ![4, 900]⟩
abbrev S900x1 : Shape := ⟨2, ![900, 1]⟩
abbrev S1x900 : Shape := ⟨2, ![1, 900]⟩
abbrev S900x900 : Shape := ⟨2, ![900, 900]⟩
abbrev S900 : Shape := ⟨1, ![900]⟩
abbrev S900x2 : Shape := ⟨2, ![900, 2]⟩

abbrev nBuf : Space → Nat
  | .hbm => 6
  | .vmem => 6
  | .smem => 0
  | _ => 0

abbrev bufTy : (tb : Table) → Fin (tcTables nBuf tb) → BufTy
  | .hbm, ⟨0, _⟩ => ⟨S16x900x256, .f32⟩
  | .hbm, ⟨1, _⟩ => ⟨S16x900x256, .f32⟩
  | .hbm, ⟨2, _⟩ => ⟨S16x900x256, .f32⟩
  | .hbm, ⟨3, _⟩ => ⟨S16x900x4, .f32⟩
  | .hbm, ⟨4, _⟩ => ⟨S16x4x900, .f32⟩
  | .hbm, ⟨5, _⟩ => ⟨S16x900x2, .i32⟩
  | .local _ .vmem, ⟨0, _⟩ => ⟨S1x900x4, .f32⟩
  | .local _ .vmem, ⟨1, _⟩ => ⟨S1x900x4, .f32⟩
  | .local _ .vmem, ⟨2, _⟩ => ⟨S1x4x900, .f32⟩
  | .local _ .vmem, ⟨3, _⟩ => ⟨S1x4x900, .f32⟩
  | .local _ .vmem, ⟨4, _⟩ => ⟨S1x900x2, .i32⟩
  | .local _ .vmem, ⟨5, _⟩ => ⟨S1x900x2, .i32⟩
  | _, _ => ⟨S16x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x900 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x900x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x900x256 : Shape := ⟨3, ![16, 900, 256]⟩
abbrev S16x900x4 : Shape := ⟨3, ![16, 900, 4]⟩
abbrev S16x900x1 : Shape := ⟨3, ![16, 900, 1]⟩
abbrev S16x900 : Shape := ⟨2, ![16, 900]⟩
abbrev S_ : Shape := ⟨0, ![]⟩
abbrev S16x900x1x4 : Shape := ⟨4, ![16, 900, 1, 4]⟩
abbrev S16x1x900x4 : Shape := ⟨4, ![16, 1, 900, 4]⟩
abbrev S16x900x1x2 : Shape := ⟨4, ![16, 900, 1, 2]⟩
abbrev S16x1x900x2 : Shape := ⟨4, ![16, 1, 900, 2]⟩
abbrev S16x900x900x2 : Shape := ⟨4, ![16, 900, 900, 2]⟩
abbrev S16x900x900x1 : Shape := ⟨4, ![16, 900, 900, 1]⟩
abbrev S16x900x900 : Shape := ⟨3, ![16, 900, 900]⟩
abbrev S16x1x900 : Shape := ⟨3, ![16, 1, 900]⟩
abbrev S900x900 : Shape := ⟨2, ![900, 900]⟩
abbrev S1x900x900 : Shape := ⟨3, ![1, 900, 900]⟩
abbrev S900 : Shape := ⟨1, ![900]⟩
abbrev S1x900 : Shape := ⟨2, ![1, 900]⟩
abbrev S16x900x2 : Shape := ⟨3, ![16, 900, 2]⟩
abbrev S1 : Shape := ⟨1, ![1]⟩
abbrev S1x1x1 : Shape := ⟨3, ![1, 1, 1]⟩

abbrev nBuf : Space → Nat
  | .hbm => 142
  | .vmem => 0
  | .smem => 0
  | _ => 0

abbrev hbmTy0_0 (i : Nat) : BufTy := match i % 128 with
  | 0 => ⟨S16x900x256, .f32⟩
  | 1 => ⟨S16x900x256, .f32⟩
  | 2 => ⟨S16x900x256, .f32⟩
  | 3 => ⟨S16x900x4, .f32⟩
  | 4 => ⟨S16x900x1, .f32⟩
  | 5 => ⟨S16x900, .f32⟩
  | 6 => ⟨S16x900x1, .f32⟩
  | 7 => ⟨S16x900, .f32⟩
  | 8 => ⟨S16x900x1, .f32⟩
  | 9 => ⟨S16x900, .f32⟩
  | 10 => ⟨S16x900x1, .f32⟩
  | 11 => ⟨S16x900, .f32⟩
  | 12 => ⟨S_, .f32⟩
  | 13 => ⟨S16x900, .f32⟩
  | 14 => ⟨S16x900, .f32⟩
  | 15 => ⟨S16x900, .f32⟩
  | 16 => ⟨S_, .f32⟩
  | 17 => ⟨S16x900, .f32⟩
  | 18 => ⟨S16x900, .f32⟩
  | 19 => ⟨S16x900, .f32⟩
  | 20 => ⟨S_, .f32⟩
  | 21 => ⟨S16x900, .f32⟩
  | 22 => ⟨S16x900, .f32⟩
  | 23 => ⟨S16x900, .f32⟩
  | 24 => ⟨S_, .f32⟩
  | 25 => ⟨S16x900, .f32⟩
  | 26 => ⟨S16x900, .f32⟩
  | 27 => ⟨S16x900, .f32⟩
  | 28 => ⟨S16x900x1, .f32⟩
  | 29 => ⟨S16x900x1, .f32⟩
  | 30 => ⟨S16x900x1, .f32⟩
  | 31 => ⟨S16x900x1, .f32⟩
  | 32 => ⟨S16x900x4, .f32⟩
  | 33 => ⟨S16x900x1x4, .f32⟩
  | 34 => ⟨S16x1x900x4, .f32⟩
  | 35 => ⟨S16x900x1x2, .f32⟩
  | 36 => ⟨S16x1x900x2, .f32⟩
  | 37 => ⟨S16x900x900x2, .f32⟩
  | 38 => ⟨S16x900x900x2, .f32⟩
  | 39 => ⟨S16x900x900x2, .f32⟩
  | 40 => ⟨S16x900x1x2, .f32⟩
  | 41 => ⟨S16x1x900x2, .f32⟩
  | 42 => ⟨S16x900x900x2, .f32⟩
  | 43 => ⟨S16x900x900x2, .f32⟩
  | 44 => ⟨S16x900x900x2, .f32⟩
  | 45 => ⟨S16x900x900x2, .f32⟩
  | 46 => ⟨S_, .f32⟩
  | 47 => ⟨S16x900x900x2, .f32⟩
  | 48 => ⟨S16x900x900x2, .f32⟩
  | 49 => ⟨S16x900x900x1, .f32⟩
  | 50 => ⟨S16x900x900, .f32⟩
  | 51 => ⟨S16x900x900x1, .f32⟩
  | 52 => ⟨S16x900x900, .f32⟩
  | 53 => ⟨S16x900x900, .f32⟩
  | 54 => ⟨S16x900x1, .f32⟩
  | 55 => ⟨S16x900, .f32⟩
  | 56 => ⟨S16x900x1, .f32⟩
  | 57 => ⟨S16x900, .f32⟩
  | 58 => ⟨S16x900, .f32⟩
  | 59 => ⟨S16x900x1, .f32⟩
  | 60 => ⟨S16x900, .f32⟩
  | 61 => ⟨S16x900x1, .f32⟩
  | 62 => ⟨S16x900, .f32⟩
  | 63 => ⟨S16x900, .f32⟩
  | 64 => ⟨S16x900, .f32⟩
  | 65 => ⟨S16x900x1, .f32⟩
  | 66 => ⟨S16x1x900, .f32⟩
  | 67 => ⟨S16x900x900, .f32⟩
  | 68 => ⟨S16x900x900, .f32⟩
  | 69 => ⟨S16x900x900, .f32⟩
  | 70 => ⟨S16x900x900, .f32⟩
  | 71 => ⟨S16x900x900, .f32⟩
  | 72 => ⟨S900x900, .i32⟩
  | 73 => ⟨S900x900, .i32⟩
  | 74 => ⟨S_, .i32⟩
  | 75 => ⟨S900x900, .i32⟩
  | 76 => ⟨S900x900, .i32⟩
  | 77 => ⟨S900x900, .i1⟩
  | 78 => ⟨S900x900, .f32⟩
  | 79 => ⟨S1x900x900, .f32⟩
  | 80 => ⟨S16x900x900, .f32⟩
  | 81 => ⟨S16x900x900, .f32⟩
  | 82 => ⟨S900, .i32⟩
  | 83 => ⟨S1x900, .i32⟩
  | 84 => ⟨S16x900, .i32⟩
  | 85 => ⟨S16x900x900, .i32⟩
  | 86 => ⟨S_, .f32⟩
  | 87 => ⟨S_, .i32⟩
  | 88 => ⟨S16x900, .f32⟩
  | 89 => ⟨S16x900, .i32⟩
  | 90 => ⟨S16x900x1, .i32⟩
  | 91 => ⟨S16x900x1, .i32⟩
  | 92 => ⟨S16x900x2, .i32⟩
  | 93 => ⟨S16x900x1, .f32⟩
  | 94 => ⟨S16x900, .f32⟩
  | 95 => ⟨S16x900x1, .f32⟩
  | 96 => ⟨S16x900, .f32⟩
  | 97 => ⟨S16x900, .f32⟩
  | 98 => ⟨S16x900, .f32⟩
  | 99 => ⟨S16x900x1, .f32⟩
  | 100 => ⟨S16x900, .f32⟩
  | 101 => ⟨S16x900x1, .f32⟩
  | 102 => ⟨S16x900, .f32⟩
  | 103 => ⟨S16x900, .f32⟩
  | 104 => ⟨S16x900, .f32⟩
  | 105 => ⟨S16x900, .f32⟩
  | 106 => ⟨S16x900x1, .i32⟩
  | 107 => ⟨S16x900, .i32⟩
  | 108 => ⟨S_, .i32⟩
  | 109 => ⟨S16x900, .i32⟩
  | 110 => ⟨S16x900, .i1⟩
  | 111 => ⟨S_, .i32⟩
  | 112 => ⟨S16x900, .i32⟩
  | 113 => ⟨S16x900, .i32⟩
  | 114 => ⟨S16x900, .i32⟩
  | 115 => ⟨S16x900x1, .i32⟩
  | 116 => ⟨S1, .i32⟩
  | 117 => ⟨S_, .i32⟩
  | 118 => ⟨S16x900x1, .i32⟩
  | 119 => ⟨S16x900x1, .i1⟩
  | 120 => ⟨S1x1x1, .i32⟩
  | 121 => ⟨S16x900x1, .i32⟩
  | 122 => ⟨S16x900x1, .i1⟩
  | 123 => ⟨S16x900x1, .i1⟩
  | 124 => ⟨S_, .i1⟩
  | 125 => ⟨S16x900, .i1⟩
  | 126 => ⟨S16x900, .f32⟩
  | 127 => ⟨S_, .f32⟩
  | _ => ⟨S16x900x256, .f32⟩

abbrev hbmTy0_1 (i : Nat) : BufTy := match i % 128 with
  | 0 => ⟨S16x900, .f32⟩
  | 1 => ⟨S16x900, .f32⟩
  | 2 => ⟨S16x900x1, .f32⟩
  | 3 => ⟨S16x900x1, .f32⟩
  | 4 => ⟨S16x900x2, .f32⟩
  | 5 => ⟨S16x900x1, .f32⟩
  | 6 => ⟨S16x900, .f32⟩
  | 7 => ⟨S16x900x1, .f32⟩
  | 8 => ⟨S16x900, .f32⟩
  | 9 => ⟨S16x900, .i1⟩
  | 10 => ⟨S16x900x1, .i1⟩
  | 11 => ⟨S16x900x2, .i32⟩
  | 12 => ⟨S16x900x2, .i1⟩
  | 13 => ⟨S16x900x2, .i32⟩
  | _ => ⟨S16x900x256, .f32⟩

abbrev hbmTy (i : Nat) : BufTy := match i / 128 with
  | 0 => hbmTy0_0 i
  | 1 => hbmTy0_1 i
  | _ => ⟨S16x900x256, .f32⟩

abbrev bufTy : (tb : Table) → Fin (tcTables nBuf tb) → BufTy
  | .hbm, ⟨i, _⟩ => hbmTy i
  | _, _ => ⟨S16x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_c : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_call0_v0 : Ref sig .tc := ⟨.hbm, 85, rfl⟩
abbrev main_call0_cst : Ref sig .tc := ⟨.hbm, 86, rfl⟩
abbrev main_call0_c : Ref sig .tc := ⟨.hbm, 87, rfl⟩
abbrev main_call0_v1_0 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_call1_c : Ref sig .tc := ⟨.hbm, 108, rfl⟩
abbrev main_call1_v0 : Ref sig .tc := ⟨.hbm, 109, rfl⟩
abbrev main_call1_v1 : Ref sig .tc := ⟨.hbm, 110, rfl⟩
abbrev main_call1_c_0 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_c_1 : Ref sig .tc := ⟨.hbm, 116, rfl⟩
abbrev main_call1_c_2 : Ref sig .tc := ⟨.hbm, 117, rfl⟩
abbrev main_call1_v6 : Ref sig .tc := ⟨.hbm, 118, rfl⟩
abbrev main_call1_v7 : Ref sig .tc := ⟨.hbm, 119, rfl⟩
abbrev main_call1_v8 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_c_3 : Ref sig .tc := ⟨.hbm, 124, rfl⟩
abbrev main_call1_v12 : Ref sig .tc := ⟨.hbm, 125, rfl⟩
abbrev main_call1_v13 : Ref sig .tc := ⟨.hbm, 126, rfl⟩
abbrev main_call1_cst : Ref sig .tc := ⟨.hbm, 127, rfl⟩
abbrev main_call1_v14 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_call3_v0 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== Proof.RefRun.lean ====
/- The reference's run, stretch by stretch: its host operations in eight lists, cut where few
   buffers are read later. -/
module

public import proofs.«01_k».proof.Defs
public import proofs.«01_k».proof.Proof.Gen.ReferenceIdeal
public import Idealize.ShloMosaic.Lib.Claim
public import Idealize.ShloMosaic.Lib.StableHlo.RunRead
public import Idealize.ShloMosaic.Lib.Pipeline.Frame

@[expose] public section

set_option maxRecDepth 65536

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- Two columns of numbers side by side. -/
def joinF (a b : (⟨S16x900x1, .f32⟩ : BufTy).Contents (Elt F)) : (⟨S16x900x2, .f32⟩ : BufTy).Contents (Elt F) :=
  concatenate S16x900x2 2 [⟨S16x900x1, a⟩, ⟨S16x900x1, b⟩] concatenates_S16x900x1_S16x900x1_S16x900x2_d2

/-- Two columns of places side by side. -/
def joinI (a b : (⟨S16x900x1, .i32⟩ : BufTy).Contents (Elt F)) : (⟨S16x900x2, .i32⟩ : BufTy).Contents (Elt F) :=
  concatenate S16x900x2 2 [⟨S16x900x1, a⟩, ⟨S16x900x1, b⟩] concatenates_S16x900x1_S16x900x1_S16x900x2_d2

/-- The operations that compute the box corners. -/
def ops_corners : List (HloOp τ sig (Elt F)) := [
  StableHlo.unary main_arg3 main_v0 ((extractStridedSlice S16x900x1 ![0, 0, 0] · slices_S16x900x4_S16x900x1_0_0_0) : (⟨S16x900x4, .f32⟩ : BufTy).Contents (Elt F) → (⟨S16x900x1, .f32⟩ : BufTy).Contents (Elt F)),
  StableHlo.reshape main_v0 main_v1 (rfl : (.f32 : EltTy) = .f32) shapeCasts_S16x900x1_S16x900,
  StableHlo.unary main_arg3 main_v2 ((extractStridedSlice S16x900x1 ![0, 0, 1] · slices_S16x900x4_S16x900x1_0_0_1) : (⟨S16x900x4, .f32⟩ : BufTy).Contents (Elt F) → (⟨S16x900x1, .f32⟩ : BufTy).Contents (Elt F)),
  StableHlo.reshape main_v2 main_v3 (rfl : (.f32 : EltTy) = .f32) shapeCasts_S16x900x1_S16x900,
  StableHlo.unary main_arg3 main_v4 ((extractStridedSlice S16x900x1 ![0, 0, 2] · slices_S16x900x4_S16x900x1_0_0_2) : (⟨S16x900x4, .f32⟩ : BufTy).Contents (Elt F) → (⟨S16x900x1, .f32⟩ : BufTy).Contents (Elt F)),
  StableHlo.reshape main_v4 main_v5 (rfl : (.f32 : EltTy) = .f32) shapeCasts_S16x900x1_S16x900,
  StableHlo.unary main_arg3 main_v6 ((extractStridedSlice S16x900x1 ![0, 0, 3] · slices_S16x900x4_S16x900x1_0_0_3) : (⟨S16x900x4, .f32⟩ : BufTy).Contents (Elt F) → (⟨S16x900x1, .f32⟩ : BufTy).Contents (Elt F)),
  StableHlo.reshape main_v6 main_v7 (rfl : (.f32 : EltTy) = .f32) shapeCasts_S16x900x1_S16x900,
  StableHlo.nullary main_cst (constant S_ .f32 0x3F000000#32),
  StableHlo.unary main_cst main_v8 (broadcastInDim S16x900 ![] bcast_S_S16x900 : (⟨S_, .f32⟩ : BufTy).Contents (Elt F) → (⟨S16x900, .f32⟩ : BufTy).Contents (Elt F)),
  StableHlo.binary main_v8 main_v7 main_v9 (mulf : (⟨S16x900, .f32⟩ : BufTy).Contents (Elt F) → (⟨S16x900, .f32⟩ : BufTy).Contents (Elt F) → (⟨S16x900, .f32⟩ : BufTy).Contents (Elt F)),
  StableHlo.binary main_v1 main_v9 main_v10 (subf : (⟨S16x900, .f32⟩ : BufTy).Contents (Elt F) → (⟨S16x900, .f32⟩ : BufTy).Contents (Elt F) → (⟨S16x900, .f32⟩ : BufTy).Contents (Elt F)),
  StableHlo.nullary main_cst_0 (constant S_ .f32 0x3F000000#32),
  StableHlo.unary main_cst_0 main_v11 (broadcastInDim S16x900 ![] bcast_S_S16x900 : (⟨S_, .f32⟩ : BufTy).Contents (Elt F) → (⟨S16x900, .f32⟩ : BufTy).Contents (Elt F)),
  StableHlo.binary main_v11 main_v5 main_v12 (mulf : (⟨S16x900, .f32⟩ : BufTy).Contents (Elt F) → (⟨S16x900, .f32⟩ : BufTy).Contents (Elt F) → (⟨S16x900, .f32⟩ : BufTy).Contents (Elt F)),
  StableHlo.binary main_v3 main_v12 main_v13 (subf : (⟨S16x900, .f32⟩ : BufTy).Contents (Elt F) → (⟨S16x900, .f32⟩ : BufTy).Contents (Elt F) → (⟨S16x900, .f32⟩ : BufTy).Contents (Elt F)),
  StableHlo.nullary main_cst_1 (constant S_ .f32 0x3F000000#32),
  StableHlo.unary main_cst_1 main_v14 (broadcastInDim S16x900 ![] bcast_S_S16x900 : (⟨S_, .f32⟩ : BufTy).Contents (Elt F) → (⟨S16x900, .f32⟩ : BufTy).Contents (Elt F)),
  StableHlo.binary main_v14 main_v7 main_v15 (mulf : (⟨S16x900, .f32⟩ : BufTy).Contents (Elt F) → (⟨S16x900, .f32⟩ : BufTy).Contents (Elt F) → (⟨S16x900, .f32⟩ : BufTy).Contents (Elt F)),
  StableHlo.binary main_v1 main_v15 main_v16 (addf : (⟨S16x900, .f32⟩ : BufTy).Contents (Elt F) → (⟨S16x900, .f32⟩ : BufTy).Contents (Elt F) → (⟨S16x900, .f32⟩ : BufTy).Contents (Elt F)),
  StableHlo.nullary main_cst_2 (constant S_ .f32 0x3F000000#32),
  StableHlo.unary main_cst_2 main_v17 (broadcastInDim S16x900 ![] bcast_S_S16x900 : (⟨S_, .f32⟩ : BufTy).Contents (Elt F) → (⟨S16x900, .f32⟩ : BufTy).Contents (Elt F)),
  StableHlo.binary main_v17 main_v5 main_v18 (mulf : (⟨S16x900, .f32⟩ : BufTy).Contents (Elt F) → (⟨S16x900, .f32⟩ : BufTy).Contents (Elt F) → (⟨S16x900, .f32⟩ : BufTy).Contents (Elt F)),
  StableHlo.binary main_v3 main_v18 main_v19 (addf : (⟨S16x900, .f32⟩ : BufTy).Contents (Elt F) → (⟨S16x900, .f32⟩ : BufTy).Contents (Elt F) → (⟨S16x900, .f32⟩ : BufTy).Contents (Elt F)),
  StableHlo.unary main_v10 main_v20 (broadcastInDim S16x900x1 ![0, 1] bcast_S16x900_S16x900x1_0_1 : (⟨S16x900, .f32⟩ : BufTy).Contents (Elt F) → (⟨S16x900x1, .f32⟩ : BufTy).Contents (Elt F)),
  StableHlo.unary main_v13 main_v21 (broadcastInDim S16x900x1 ![0, 1] bcast_S16x900_S16x900x1_0_1 : (⟨S16x900, .f32⟩ : BufTy).Contents (Elt F) → (⟨S16x900x1, .f32⟩ : BufTy).Contents (Elt F)),
  StableHlo.unary main_v16 main_v22 (broadcastInDim S16x900x1 ![0, 1] bcast_S16x900_S16x900x1_0_1 : (⟨S16x900, .f32⟩ : BufTy).Contents (Elt F) → (⟨S16x900x1, .f32⟩ : BufTy).Contents (Elt F)),
  StableHlo.unary main_v19 main_v23 (broadcastInDim S16x900x1 ![0, 1] bcast_S16x900_S16x900x1_0_1 : (⟨S16x900, .f32⟩ : BufTy).Contents (Elt F) → (⟨S16x900x1, .f32⟩ : BufTy).Contents (Elt F))]

/-- The operation that joins the four corner columns. -/
def ops_boxes : List (HloOp τ sig (Elt F)) := [
  StableHlo.nary ![main_v20, main_v21, main_v22, main_v23] main_v24 (fun u => (concatenate S16x900x4 2 [⟨S16x900x1, (u 0 : (⟨S16x900x1, .f32⟩ : BufTy).Contents (Elt F))⟩, ⟨S16x900x1, (u 1 : (⟨S16x900x1, .f32⟩ : BufTy).Contents (Elt F))⟩, ⟨S16x900x1, (u 2 : (⟨S16x900x1, .f32⟩ : BufTy).Contents (Elt F))⟩, ⟨S16x900x1, (u 3 : (⟨S16x900x1, .f32⟩ : BufTy).Contents (Elt F))⟩] concatenates_S16x900x1_S16x900x1_S16x900x1_S16x900x1_S16x900x4_d2 : (⟨S16x900x4, .f32⟩ : BufTy).Contents (Elt F)))]

/-- The operations that compute the intersections. -/
def ops_inters : List (HloOp τ sig (Elt F)) := [
  StableHlo.unary main_v24 main_v25 (broadcastInDim S16x900x1x4 ![0, 1, 3] bcast_S16x900x4_S16x900x1x4_0_1_3 : (⟨S16x900x4, .f32⟩ : BufTy).Contents (Elt F) → (⟨S16x900x1x4, .f32⟩ : BufTy).Contents (Elt F)),
  StableHlo.unary main_v24 main_v26 (broadcastInDim S16x1x900x4 ![0, 2, 3] bcast_S16x900x4_S16x1x900x4_0_2_3 : (⟨S16x900x4, .f32⟩ : BufTy).Contents (Elt F) → (⟨S16x1x900x4, .f32⟩ : BufTy).Contents (Elt F)),
  StableHlo.unary main_v25 main_v27 ((extractStridedSlice S16x900x1x2 ![0, 0, 0, 0] · slices_S16x900x1x4_S16x900x1x2_0_0_0_0) : (⟨S16x900x1x4, .f32⟩ : BufTy).Contents (Elt F) → (⟨S16x900x1x2, .f32⟩ : BufTy).Contents (Elt F)),
  StableHlo.unary main_v26 main_v28 ((extractStridedSlice S16x1x900x2 ![0, 0, 0, 0] · slices_S16x1x900x4_S16x1x900x2_0_0_0_0) : (⟨S16x1x900x4, .f32⟩ : BufTy).Contents (Elt F) → (⟨S16x1x900x2, .f32⟩ : BufTy).Contents (Elt F)),
  StableHlo.unary main_v27 main_v29 (broadcastInDim S16x900x900x2 ![0, 1, 2, 3] bcast_S16x900x1x2_S16x900x900x2_0_1_2_3 : (⟨S16x900x1x2, .f32⟩ : BufTy).Contents (Elt F) → (⟨S16x900x900x2, .f32⟩ : BufTy).Contents (Elt F)),
  StableHlo.unary main_v28 main_v30 (broadcastInDim S16x900x900x2 ![0, 1, 2, 3] bcast_S16x1x900x2_S16x900x900x2_0_1_2_3 : (⟨S16x1x900x2, .f32⟩ : BufTy).Contents (Elt F) → (⟨S16x900x900x2, .f32⟩ : BufTy).Contents (Elt F)),
  StableHlo.binary main_v29 main_v30 main_v31 (maximumf : (⟨S16x900x900x2, .f32⟩ : BufTy).Contents (Elt F) → (⟨S16x900x900x2, .f32⟩ : BufTy).Contents (Elt F) → (⟨S16x900x900x2, .f32⟩ : BufTy).Contents (Elt F)),
  StableHlo.unary main_v25 main_v32 ((extractStridedSlice S16x900x1x2 ![0, 0, 0, 2] · slices_S16x900x1x4_S16x900x1x2_0_0_0_2) : (⟨S16x900x1x4, .f32⟩ : BufTy).Contents (Elt F) → (⟨S16x900x1x2, .f32⟩ : BufTy).Contents (Elt F)),
  StableHlo.unary main_v26 main_v33 ((extractStridedSlice S16x1x900x2 ![0, 0, 0, 2] · slices_S16x1x900x4_S16x1x900x2_0_0_0_2) : (⟨S16x1x900x4, .f32⟩ : BufTy).Contents (Elt F) → (⟨S16x1x900x2, .f32⟩ : BufTy).Contents (Elt F)),
  StableHlo.unary main_v32 main_v34 (broadcastInDim S16x900x900x2 ![0, 1, 2, 3] bcast_S16x900x1x2_S16x900x900x2_0_1_2_3 : (⟨S16x900x1x2, .f32⟩ : BufTy).Contents (Elt F) → (⟨S16x900x900x2, .f32⟩ : BufTy).Contents (Elt F)),
  StableHlo.unary main_v33 main_v35 (broadcastInDim S16x900x900x2 ![0, 1, 2, 3] bcast_S16x1x900x2_S16x900x900x2_0_1_2_3 : (⟨S16x1x900x2, .f32⟩ : BufTy).Contents (Elt F) → (⟨S16x900x900x2, .f32⟩ : BufTy).Contents (Elt F)),
  StableHlo.binary main_v34 main_v35 main_v36 (maximumf : (⟨S16x900x900x2, .f32⟩ : BufTy).Contents (Elt F) → (⟨S16x900x900x2, .f32⟩ : BufTy).Contents (Elt F) → (⟨S16x900x900x2, .f32⟩ : BufTy).Contents (Elt F)),
  StableHlo.binary main_v36 main_v31 main_v37 (subf : (⟨S16x900x900x2, .f32⟩ : BufTy).Contents (Elt F) → (⟨S16x900x900x2, .f32⟩ : BufTy).Contents (Elt F) → (⟨S16x900x900x2, .f32⟩ : BufTy).Contents (Elt F)),
  StableHlo.nullary main_cst_3 (constant S_ .f32 0x00000000#32),
  StableHlo.unary main_cst_3 main_v38 (broadcastInDim S16x900x900x2 ![] bcast_S_S16x900x900x2 : (⟨S_, .f32⟩ : BufTy).Contents (Elt F) → (⟨S16x900x900x2, .f32⟩ : BufTy).Contents (Elt F)),
  StableHlo.binary main_v37 main_v38 main_v39 (maximumf : (⟨S16x900x900x2, .f32⟩ : BufTy).Contents (Elt F) → (⟨S16x900x900x2, .f32⟩ : BufTy).Contents (Elt F) → (⟨S16x900x900x2, .f32⟩ : BufTy).Contents (Elt F)),
  StableHlo.unary main_v39 main_v40 ((extractStridedSlice S16x900x900x1 ![0, 0, 0, 0] · slices_S16x900x900x2_S16x900x900x1_0_0_0_0) : (⟨S16x900x900x2, .f32⟩ : BufTy).Contents (Elt F) → (⟨S16x900x900x1, .f32⟩ : BufTy).Contents (Elt F)),
  StableHlo.reshape main_v40 main_v41 (rfl : (.f32 : EltTy) = .f32) shapeCasts_S16x900x900x1_S16x900x900,
  StableHlo.unary main_v39 main_v42 ((extractStridedSlice S16x900x900x1 ![0, 0, 0, 1] · slices_S16x900x900x2_S16x900x900x1_0_0_0_1) : (⟨S16x900x900x2, .f32⟩ : BufTy).Contents (Elt F) → (⟨S16x900x900x1, .f32⟩ : BufTy).Contents (Elt F)),
  StableHlo.reshape main_v42 main_v43 (rfl : (.f32 : EltTy) = .f32) shapeCasts_S16x900x900x1_S16x900x900,
  StableHlo.binary main_v41 main_v43 main_v44 (mulf : (⟨S16x900x900, .f32⟩ : BufTy).Contents (Elt F) → (⟨S16x900x900, .f32⟩ : BufTy).Contents (Elt F) → (⟨S16x900x900, .f32⟩ : BufTy).Contents (Elt F))]

/-- The operations that compute the overlaps. -/
def ops_overlaps : List (HloOp τ sig (Elt F)) := [
  StableHlo.unary main_v24 main_v45 ((extractStridedSlice S16x900x1 ![0, 0, 2] · slices_S16x900x4_S16x900x1_0_0_2) : (⟨S16x900x4, .f32⟩ : BufTy).Contents (Elt F) → (⟨S16x900x1, .f32⟩ : BufTy).Contents (Elt F)),
  StableHlo.reshape main_v45 main_v46 (rfl : (.f32 : EltTy) = .f32) shapeCasts_S16x900x1_S16x900,
  StableHlo.unary main_v24 main_v47 ((extractStridedSlice S16x900x1 ![0, 0, 0] · slices_S16x900x4_S16x900x1_0_0_0) : (⟨S16x900x4, .f32⟩ : BufTy).Contents (Elt F) → (⟨S16x900x1, .f32⟩ : BufTy).Contents (Elt F)),
  StableHlo.reshape main_v47 main_v48 (rfl : (.f32 : EltTy) = .f32) shapeCasts_S16x900x1_S16x900,
  StableHlo.binary main_v46 main_v48 main_v49 (subf : (⟨S16x900, .f32⟩ : BufTy).Contents (Elt F) → (⟨S16x900, .f32⟩ : BufTy).Contents (Elt F) → (⟨S16x900, .f32⟩ : BufTy).Contents (Elt F)),
  StableHlo.unary main_v24 main_v50 ((extractStridedSlice S16x900x1 ![0, 0, 3] · slices_S16x900x4_S16x900x1_0_0_3) : (⟨S16x900x4, .f32⟩ : BufTy).Contents (Elt F) → (⟨S16x900x1, .f32⟩ : BufTy).Contents (Elt F)),
  StableHlo.reshape main_v50 main_v51 (rfl : (.f32 : EltTy) = .f32) shapeCasts_S16x900x1_S16x900,
  StableHlo.unary main_v24 main_v52 ((extractStridedSlice S16x900x1 ![0, 0, 1] · slices_S16x900x4_S16x900x1_0_0_1) : (⟨S16x900x4, .f32⟩ : BufTy).Contents (Elt F) → (⟨S16x900x1, .f32⟩ : BufTy).Contents (Elt F)),
  StableHlo.reshape main_v52 main_v53 (rfl : (.f32 : EltTy) = .f32) shapeCasts_S16x900x1_S16x900,
  StableHlo.binary main_v51 main_v53 main_v54 (subf : (⟨S16x900, .f32⟩ : BufTy).Contents (Elt F) → (⟨S16x900, .f32⟩ : BufTy).Contents (Elt F) → (⟨S16x900, .f32⟩ : BufTy).Contents (Elt F)),
  StableHlo.binary main_v49 main_v54 main_v55 (mulf : (⟨S16x900, .f32⟩ : BufTy).Contents (Elt F) → (⟨S16x900, .f32⟩ : BufTy).Contents (Elt F) → (⟨S16x900, .f32⟩ : BufTy).Contents (Elt F)),
  StableHlo.unary main_v55 main_v56 (broadcastInDim S16x900x1 ![0, 1] bcast_S16x900_S16x900x1_0_1 : (⟨S16x900, .f32⟩ : BufTy).Contents (Elt F) → (⟨S16x900x1, .f32⟩ : BufTy).Contents (Elt F)),
  StableHlo.unary main_v55 main_v57 (broadcastInDim S16x1x900 ![0, 2] bcast_S16x900_S16x1x900_0_2 : (⟨S16x900, .f32⟩ : BufTy).Contents (Elt F) → (⟨S16x1x900, .f32⟩ : BufTy).Contents (Elt F)),
  StableHlo.unary main_v56 main_v58 (broadcastInDim S16x900x900 ![0, 1, 2] bcast_S16x900x1_S16x900x900_0_1_2 : (⟨S16x900x1, .f32⟩ : BufTy).Contents (Elt F) → (⟨S16x900x900, .f32⟩ : BufTy).Contents (Elt F)),
  StableHlo.unary main_v57 main_v59 (broadcastInDim S16x900x900 ![0, 1, 2] bcast_S16x1x900_S16x900x900_0_1_2 : (⟨S16x1x900, .f32⟩ : BufTy).Contents (Elt F) → (⟨S16x900x900, .f32⟩ : BufTy).Contents (Elt F)),
  StableHlo.binary main_v58 main_v59 main_v60 (addf : (⟨S16x900x900, .f32⟩ : BufTy).Contents (Elt F) → (⟨S16x900x900, .f32⟩ : BufTy).Contents (Elt F) → (⟨S16x900x900, .f32⟩ : BufTy).Contents (Elt F)),
  StableHlo.binary main_v60 main_v44 main_v61 (subf : (⟨S16x900x900, .f32⟩ : BufTy).Contents (Elt F) → (⟨S16x900x900, .f32⟩ : BufTy).Contents (Elt F) → (⟨S16x900x900, .f32⟩ : BufTy).Contents (Elt F)),
  StableHlo.binary main_v44 main_v61 main_v62 (Host.divf : (⟨S16x900x900, .f32⟩ : BufTy).Contents (Elt F) → (⟨S16x900x900, .f32⟩ : BufTy).Contents (Elt F) → (⟨S16x900x900, .f32⟩ : BufTy).Contents (Elt F)),
  StableHlo.nullary main_v63 (iotaInDim S900x900 32 0),
  StableHlo.nullary main_v64 (iotaInDim S900x900 32 1),
  StableHlo.nullary main_c (constantI S_ 32 0#32),
  StableHlo.unary main_c main_v65 (broadcastInDim S900x900 ![] bcast_S_S900x900 : (⟨S_, .i32⟩ : BufTy).Contents (Elt F) → (⟨S900x900, .i32⟩ : BufTy).Contents (Elt F)),
  StableHlo.binary main_v63 main_v65 main_v66 (addi : (⟨S900x900, .i32⟩ : BufTy).Contents (Elt F) → (⟨S900x900, .i32⟩ : BufTy).Contents (Elt F) → (⟨S900x900, .i32⟩ : BufTy).Contents (Elt F)),
  StableHlo.binary main_v66 main_v64 main_v67 (cmpi .eq : (⟨S900x900, .i32⟩ : BufTy).Contents (Elt F) → (⟨S900x900, .i32⟩ : BufTy).Contents (Elt F) → (⟨S900x900, .i1⟩ : BufTy).Contents (Elt F)),
  StableHlo.unary main_v67 main_v68 (uitofp .f32 : (⟨S900x900, .i1⟩ : BufTy).Contents (Elt F) → (⟨S900x900, .f32⟩ : BufTy).Contents (Elt F)),
  StableHlo.unary main_v68 main_v69 (broadcastInDim S1x900x900 ![1, 2] bcast_S900x900_S1x900x900_1_2 : (⟨S900x900, .f32⟩ : BufTy).Contents (Elt F) → (⟨S1x900x900, .f32⟩ : BufTy).Contents (Elt F)),
  StableHlo.unary main_v69 main_v70 (broadcastInDim S16x900x900 ![0, 1, 2] bcast_S1x900x900_S16x900x900_0_1_2 : (⟨S1x900x900, .f32⟩ : BufTy).Contents (Elt F) → (⟨S16x900x900, .f32⟩ : BufTy).Contents (Elt F)),
  StableHlo.binary main_v62 main_v70 main_v71 (subf : (⟨S16x900x900, .f32⟩ : BufTy).Contents (Elt F) → (⟨S16x900x900, .f32⟩ : BufTy).Contents (Elt F) → (⟨S16x900x900, .f32⟩ : BufTy).Contents (Elt F))]

/-- The operations that compute the partners. -/
def ops_partners : List (HloOp τ sig (Elt F)) := [
  StableHlo.nullary main_v72 (iotaInDim S900 32 0),
  StableHlo.unary main_v72 main_v73 (broadcastInDim S1x900 ![1] bcast_S900_S1x900_1 : (⟨S900, .i32⟩ : BufTy).Contents (Elt F) → (⟨S1x900, .i32⟩ : BufTy).Contents (Elt F)),
  StableHlo.unary main_v73 main_v74 (broadcastInDim S16x900 ![0, 1] bcast_S1x900_S16x900_0_1 : (⟨S1x900, .i32⟩ : BufTy).Contents (Elt F) → (⟨S16x900, .i32⟩ : BufTy).Contents (Elt F)),
  StableHlo.TRef.nullary main_call0.v0 (iotaInDim S16x900x900 32 2),
  StableHlo.TRef.nullary main_call0.cst (constant S_ .f32 0xFF800000#32),
  StableHlo.TRef.nullary main_call0.c (constantI S_ 32 0#32),
  StableHlo.TRef.quaternary (.of main_v71 : StableHlo.TRef sig ⟨S16x900x900, .f32⟩) main_call0.v0 main_call0.cst main_call0.c main_call0.v1_0 (fun x y u v j => (Host.argReduce (reducer_argmax_f32_i32 (F := F)) x y u v reducesTo_S16x900x900_S16x900_d2 h_S_ j).1),
  StableHlo.TRef.quaternary (.of main_v71 : StableHlo.TRef sig ⟨S16x900x900, .f32⟩) main_call0.v0 main_call0.cst main_call0.c main_call0.v1_1 (fun x y u v j => (Host.argReduce (reducer_argmax_f32_i32 (F := F)) x y u v reducesTo_S16x900x900_S16x900_d2 h_S_ j).2)]

/-- The operations that compute the pairs and the half perimeters. -/
def ops_spans : List (HloOp τ sig (Elt F)) := [
  StableHlo.unary main_v74 main_v76 (broadcastInDim S16x900x1 ![0, 1] bcast_S16x900_S16x900x1_0_1 : (⟨S16x900, .i32⟩ : BufTy).Contents (Elt F) → (⟨S16x900x1, .i32⟩ : BufTy).Contents (Elt F)),
  StableHlo.unary main_v75 main_v77 (broadcastInDim S16x900x1 ![0, 1] bcast_S16x900_S16x900x1_0_1 : (⟨S16x900, .i32⟩ : BufTy).Contents (Elt F) → (⟨S16x900x1, .i32⟩ : BufTy).Contents (Elt F)),
  StableHlo.binary main_v76 main_v77 main_v78 (joinI : (⟨S16x900x1, .i32⟩ : BufTy).Contents (Elt F) → (⟨S16x900x1, .i32⟩ : BufTy).Contents (Elt F) → (⟨S16x900x2, .i32⟩ : BufTy).Contents (Elt F)),
  StableHlo.unary main_v24 main_v79 ((extractStridedSlice S16x900x1 ![0, 0, 2] · slices_S16x900x4_S16x900x1_0_0_2) : (⟨S16x900x4, .f32⟩ : BufTy).Contents (Elt F) → (⟨S16x900x1, .f32⟩ : BufTy).Contents (Elt F)),
  StableHlo.reshape main_v79 main_v80 (rfl : (.f32 : EltTy) = .f32) shapeCasts_S16x900x1_S16x900,
  StableHlo.unary main_v24 main_v81 ((extractStridedSlice S16x900x1 ![0, 0, 0] · slices_S16x900x4_S16x900x1_0_0_0) : (⟨S16x900x4, .f32⟩ : BufTy).Contents (Elt F) → (⟨S16x900x1, .f32⟩ : BufTy).Contents (Elt F)),
  StableHlo.reshape main_v81 main_v82 (rfl : (.f32 : EltTy) = .f32) shapeCasts_S16x900x1_S16x900,
  StableHlo.binary main_v80 main_v82 main_v83 (subf : (⟨S16x900, .f32⟩ : BufTy).Contents (Elt F) → (⟨S16x900, .f32⟩ : BufTy).Contents (Elt F) → (⟨S16x900, .f32⟩ : BufTy).Contents (Elt F)),
  StableHlo.unary main_v83 main_v84 (Host.absf : (⟨S16x900, .f32⟩ : BufTy).Contents (Elt F) → (⟨S16x900, .f32⟩ : BufTy).Contents (Elt F)),
  StableHlo.unary main_v24 main_v85 ((extractStridedSlice S16x900x1 ![0, 0, 3] · slices_S16x900x4_S16x900x1_0_0_3) : (⟨S16x900x4, .f32⟩ : BufTy).Contents (Elt F) → (⟨S16x900x1, .f32⟩ : BufTy).Contents (Elt F)),
  StableHlo.reshape main_v85 main_v86 (rfl : (.f32 : EltTy) = .f32) shapeCasts_S16x900x1_S16x900,
  StableHlo.unary main_v24 main_v87 ((extractStridedSlice S16x900x1 ![0, 0, 1] · slices_S16x900x4_S16x900x1_0_0_1) : (⟨S16x900x4, .f32⟩ : BufTy).Contents (Elt F) → (⟨S16x900x1, .f32⟩ : BufTy).Contents (Elt F)),
  StableHlo.reshape main_v87 main_v88 (rfl : (.f32 : EltTy) = .f32) shapeCasts_S16x900x1_S16x900,
  StableHlo.binary main_v86 main_v88 main_v89 (subf : (⟨S16x900, .f32⟩ : BufTy).Contents (Elt F) → (⟨S16x900, .f32⟩ : BufTy).Contents (Elt F) → (⟨S16x900, .f32⟩ : BufTy).Contents (Elt F)),
  StableHlo.unary main_v89 main_v90 (Host.absf : (⟨S16x900, .f32⟩ : BufTy).Contents (Elt F) → (⟨S16x900, .f32⟩ : BufTy).Contents (Elt F)),
  StableHlo.binary main_v84 main_v90 main_v91 (addf : (⟨S16x900, .f32⟩ : BufTy).Contents (Elt F) → (⟨S16x900, .f32⟩ : BufTy).Contents (Elt F) → (⟨S16x900, .f32⟩ : BufTy).Contents (Elt F)),
  StableHlo.unary main_v78 main_v92 ((extractStridedSlice S16x900x1 ![0, 0, 1] · slices_S16x900x2_S16x900x1_0_0_1) : (⟨S16x900x2, .i32⟩ : BufTy).Contents (Elt F) → (⟨S16x900x1, .i32⟩ : BufTy).Contents (Elt F)),
  StableHlo.reshape main_v92 main_v93 (rfl : (.i32 : EltTy) = .i32) shapeCasts_S16x900x1_S16x900]

/-- The operations that compute the partners' half perimeters. -/
def ops_taken : List (HloOp τ sig (Elt F)) := [
  StableHlo.TRef.nullary main_call1.c (constantI S_ 32 0#32),
  StableHlo.TRef.unary main_call1.c main_call1.v0 (broadcastInDim S16x900 ![] bcast_S_S16x900),
  StableHlo.TRef.binary (.of main_v93 : StableHlo.TRef sig ⟨S16x900, .i32⟩) main_call1.v0 main_call1.v1 (cmpi .slt),
  StableHlo.TRef.nullary main_call1.c_0 (constantI S_ 32 900#32),
  StableHlo.TRef.unary main_call1.c_0 main_call1.v2 (broadcastInDim S16x900 ![] bcast_S_S16x900),
  StableHlo.TRef.binary (.of main_v93 : StableHlo.TRef sig ⟨S16x900, .i32⟩) main_call1.v2 main_call1.v3 addi,
  StableHlo.TRef.ternary main_call1.v1 main_call1.v3 (.of main_v93 : StableHlo.TRef sig ⟨S16x900, .i32⟩) main_call1.v4 select,
  StableHlo.TRef.reshape main_call1.v4 main_call1.v5 (rfl : (.i32 : EltTy) = .i32) shapeCasts_S16x900_S16x900x1,
  StableHlo.TRef.nullary main_call1.c_1 (constantI S1 32 899#32),
  StableHlo.TRef.nullary main_call1.c_2 (constantI S_ 32 0#32),
  StableHlo.TRef.unary main_call1.c_2 main_call1.v6 (broadcastInDim S16x900x1 ![] bcast_S_S16x900x1),
  StableHlo.TRef.binary main_call1.v5 main_call1.v6 main_call1.v7 (cmpi .sge),
  StableHlo.TRef.unary main_call1.c_1 main_call1.v8 (broadcastInDim S1x1x1 ![2] bcast_S1_S1x1x1_2),
  StableHlo.TRef.unary main_call1.v8 main_call1.v9 (broadcastInDim S16x900x1 ![0, 1, 2] bcast_S1x1x1_S16x900x1_0_1_2),
  StableHlo.TRef.binary main_call1.v5 main_call1.v9 main_call1.v10 (cmpi .sle),
  StableHlo.TRef.binary main_call1.v7 main_call1.v10 main_call1.v11 andi,
  StableHlo.TRef.nullary main_call1.c_3 (constantI S_ 1 1#1),
  StableHlo.TRef.binary main_call1.v11 main_call1.c_3 main_call1.v12 (fun x v => Host.reduce IntOp.andi x v reducesTo_S16x900x1_S16x900_d2 h_S_),
  StableHlo.TRef.binary (.of main_v91 : StableHlo.TRef sig ⟨S16x900, .f32⟩) main_call1.v5 main_call1.v13 (fun x i => Host.gather gather_S16x900_S16x900x1_S16x900_n_1_0_0_1_2_11 x i),
  StableHlo.TRef.nullary main_call1.cst (constant S_ .f32 0x7FC00000#32),
  StableHlo.TRef.unary main_call1.cst main_call1.v14 (broadcastInDim S16x900 ![] bcast_S_S16x900),
  StableHlo.TRef.ternary main_call1.v12 main_call1.v13 main_call1.v14 main_call1.v15 select]

/-- The operations that compute the pairs in order. -/
def ops_ordered : List (HloOp τ sig (Elt F)) := [
  StableHlo.unary main_v91 main_v95 (broadcastInDim S16x900x1 ![0, 1] bcast_S16x900_S16x900x1_0_1 : (⟨S16x900, .f32⟩ : BufTy).Contents (Elt F) → (⟨S16x900x1, .f32⟩ : BufTy).Contents (Elt F)),
  StableHlo.unary main_v94 main_v96 (broadcastInDim S16x900x1 ![0, 1] bcast_S16x900_S16x900x1_0_1 : (⟨S16x900, .f32⟩ : BufTy).Contents (Elt F) → (⟨S16x900x1, .f32⟩ : BufTy).Contents (Elt F)),
  StableHlo.binary main_v95 main_v96 main_v97 (joinF : (⟨S16x900x1, .f32⟩ : BufTy).Contents (Elt F) → (⟨S16x900x1, .f32⟩ : BufTy).Contents (Elt F) → (⟨S16x900x2, .f32⟩ : BufTy).Contents (Elt F)),
  StableHlo.unary main_v97 main_v98 ((extractStridedSlice S16x900x1 ![0, 0, 0] · slices_S16x900x2_S16x900x1_0_0_0) : (⟨S16x900x2, .f32⟩ : BufTy).Contents (Elt F) → (⟨S16x900x1, .f32⟩ : BufTy).Contents (Elt F)),
  StableHlo.reshape main_v98 main_v99 (rfl : (.f32 : EltTy) = .f32) shapeCasts_S16x900x1_S16x900,
  StableHlo.unary main_v97 main_v100 ((extractStridedSlice S16x900x1 ![0, 0, 1] · slices_S16x900x2_S16x900x1_0_0_1) : (⟨S16x900x2, .f32⟩ : BufTy).Contents (Elt F) → (⟨S16x900x1, .f32⟩ : BufTy).Contents (Elt F)),
  StableHlo.reshape main_v100 main_v101 (rfl : (.f32 : EltTy) = .f32) shapeCasts_S16x900x1_S16x900,
  StableHlo.binary main_v99 main_v101 main_v102 (cmpf .oge : (⟨S16x900, .f32⟩ : BufTy).Contents (Elt F) → (⟨S16x900, .f32⟩ : BufTy).Contents (Elt F) → (⟨S16x900, .i1⟩ : BufTy).Contents (Elt F)),
  StableHlo.unary main_v102 main_v103 (broadcastInDim S16x900x1 ![0, 1] bcast_S16x900_S16x900x1_0_1 : (⟨S16x900, .i1⟩ : BufTy).Contents (Elt F) → (⟨S16x900x1, .i1⟩ : BufTy).Contents (Elt F)),
  StableHlo.TRef.unary (.of main_v78 : StableHlo.TRef sig ⟨S16x900x2, .i32⟩) main_call2.v0 (Host.reverse [2]),
  StableHlo.TRef.unary (.of main_v103 : StableHlo.TRef sig ⟨S16x900x1, .i1⟩) main_call3.v0 (broadcastInDim S16x900x2 ![0, 1, 2] bcast_S16x900x1_S16x900x2_0_1_2),
  StableHlo.TRef.ternary main_call3.v0 (.of main_v78 : StableHlo.TRef sig ⟨S16x900x2, .i32⟩) (.of main_v104 : StableHlo.TRef sig ⟨S16x900x2, .i32⟩) main_call3.v1 select]

set_option maxHeartbeats 1600000 in
/-- The reference's program is those lists in order. -/
theorem main_seq (c : Dev nD) : main (F := F) c = StableHlo.seq (ops_corners ++ (ops_boxes ++ (ops_inters ++ (ops_overlaps
    ++ (ops_partners ++ (ops_spans ++ (ops_taken ++ ops_ordered))))))) := by
  rfl

/-- A buffer's contents at the end of the reference, from contents `V`. -/
def ended (V : Valuation τ sig (Elt F)) : Valuation τ sig (Elt F) :=
  StableHlo.after ops_ordered (StableHlo.after ops_taken (StableHlo.after ops_spans (StableHlo.after ops_partners
    (StableHlo.after ops_overlaps (StableHlo.after ops_inters (StableHlo.after ops_boxes (StableHlo.after ops_corners V)))))))

set_option maxHeartbeats 4000000 in
/-- The reference runs, and leaves every buffer at what its operations leave. -/
theorem ran (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = ended (StableHlo.launchContents m d) (Proc.devRef .tc b) := by
  have h := StableHlo.run_hlo (defs (F := F)) (main (F := F)) main_seq (by decide) (by decide)
    (by simp [ops_corners, ops_boxes, ops_inters, ops_overlaps, ops_partners, ops_spans, ops_taken, ops_ordered])
    (by
      intro _ h
      simp only [List.mem_append] at h
      rcases h with h | h | h | h | h | h | h | h <;>
      ((repeat (cases h with | head => rfl | tail _ h => ?_)); exact nomatch h)) m ρ
  simpa only [StableHlo.after_append, ended] using h

end Cert.ReferenceIdeal.Value

end
-- ==== Proof.RefKept.lean ====
/- Which buffers each list of the reference's operations writes; every other buffer keeps its contents. -/
module

public import proofs.«01_k».proof.Proof.RefRun

@[expose] public section

set_option maxRecDepth 65536

noncomputable section

namespace Cert.ReferenceIdeal.Value

open Cert.ReferenceIdeal Cert.ReferenceIdeal.Gen Idealize.ShloMosaic Idealize.ShloMosaic.TcCoe Idealize.SL.Sem

/-- What the list `ops_corners` writes. -/
def wrote_corners : List (Ref sig .tc) :=
  [main_v0, main_v1, main_v2, main_v3, main_v4, main_v5, main_v6, main_v7, main_cst, main_v8, main_v9,
   main_v10, main_cst_0, main_v11, main_v12, main_v13, main_cst_1, main_v14, main_v15, main_v16, main_cst_2,
   main_v17, main_v18, main_v19, main_v20, main_v21, main_v22, main_v23]

/-- What the list `ops_boxes` writes. -/
def wrote_boxes : List (Ref sig .tc) :=
  [main_v24]

/-- What the list `ops_inters` writes. -/
def wrote_inters : List (Ref sig .tc) :=
  [main_v25, main_v26, main_v27, main_v28, main_v29, main_v30, main_v31, main_v32, main_v33, main_v34,
   main_v35, main_v36, main_v37, main_cst_3, main_v38, main_v39, main_v40, main_v41, main_v42, main_v43,
   main_v44]

/-- What the list `ops_overlaps` writes. -/
def wrote_overlaps : List (Ref sig .tc) :=
  [main_v45, main_v46, main_v47, main_v48, main_v49, main_v50, main_v51, main_v52, main_v53, main_v54,
   main_v55, main_v56, main_v57, main_v58, main_v59, main_v60, main_v61, main_v62, main_v63, main_v64, main_c,
   main_v65, main_v66, main_v67, main_v68, main_v69, main_v70, main_v71]

/-- What the list `ops_partners` writes. -/
def wrote_partners : List (Ref sig .tc) :=
  [main_v72, main_v73, main_v74, main_call0.v0.ref, main_call0.cst.ref, main_call0.c.ref, main_call0.v1_0.ref,
   main_call0.v1_1.ref]

/-- What the list `ops_spans` writes. -/
def wrote_spans : List (Ref sig .tc) :=
  [main_v76, main_v77, main_v78, main_v79, main_v80, main_v81, main_v82, main_v83, main_v84, main_v85,
   main_v86, main_v87, main_v88, main_v89, main_v90, main_v91, main_v92, main_v93]

/-- What the list `ops_taken` writes. -/
def wrote_taken : List (Ref sig .tc) :=
  [main_call1.c.ref, main_call1.v0.ref, main_call1.v1.ref, main_call1.c_0.ref, main_call1.v2.ref,
   main_call1.v3.ref, main_call1.v4.ref, main_call1.v5.ref, main_call1.c_1.ref, main_call1.c_2.ref,
   main_call1.v6.ref, main_call1.v7.ref, main_call1.v8.ref, main_call1.v9.ref, main_call1.v10.ref,
   main_call1.v11.ref, main_call1.c_3.ref, main_call1.v12.ref, main_call1.v13.ref, main_call1.cst.ref,
   main_call1.v14.ref, main_call1.v15.ref]

/-- What the list `ops_ordered` writes. -/
def wrote_ordered : List (Ref sig .tc) :=
  [main_v95, main_v96, main_v97, main_v98, main_v99, main_v100, main_v101, main_v102, main_v103,
   main_call2.v0.ref, main_call3.v0.ref, main_call3.v1.ref]

variable {F : FTy → Type} [FloatOps F]

/-- A buffer that a list does not write keeps its contents, given the list's writes. -/
theorem kept {ops : List (HloOp τ sig (Elt F))} {W : List (Ref sig .tc)}
    (h : ops.map HloOp.writes = W.map fun r => {Proc.devRef (τ := τ) .tc r}) (V : Valuation τ sig (Elt F))
    {r : Ref sig .tc} (hr : r ∉ W) : StableHlo.after ops V (Proc.devRef .tc r) = V (Proc.devRef .tc r) :=
  StableHlo.after_of_writes_sub ops V (StableHlo.forall_writes_sub_of_map h) hr

/-- What the reference writes. -/
def wrote : List (Ref sig .tc) :=
  wrote_corners ++ (wrote_boxes ++ (wrote_inters ++ (wrote_overlaps ++ (wrote_partners ++ (wrote_spans
    ++ (wrote_taken ++ wrote_ordered))))))

/-- A buffer that the reference does not write ends as it began. -/
theorem ended_kept (V : Valuation τ sig (Elt F)) {r : Ref sig .tc} (hr : r ∉ wrote) :
    ended V (Proc.devRef .tc r) = V (Proc.devRef .tc r) := by
  have h := kept (F := F) (ops := ops_corners ++ (ops_boxes ++ (ops_inters ++ (ops_overlaps
    ++ (ops_partners ++ (ops_spans ++ (ops_taken ++ ops_ordered))))))) (W := wrote) rfl V hr
  simpa only [StableHlo.after_append, ended] using h

end Cert.ReferenceIdeal.Value

end
-- ==== Proof.First.lean ====
/- The first place of a row's greatest value, and the two ways the programs find it: a fold of pairs
   (value, place) that keeps the greater value and, of equal values, the smaller place; and a fold of the
   smallest place over the places that hold the greatest value. Both give the same place. -/
module

public import Idealize.ShloMosaic.Lib.Pointwise
public import Idealize.ShloMosaic.Lib.SortNet.Extract
public import Idealize.ShloMosaic.PureOps.Ideal.Laws

@[expose] public section

noncomputable section

namespace Cert.Pairs

open Idealize.ShloMosaic

/-- Place `k` holds a greatest value of the row `f`, and no earlier place does. -/
def IsFirst (f : Fin 900 → EReal) (k : Fin 900) : Prop := (∀ j, f j ≤ f k) ∧ ∀ j, f j = f k → k ≤ j

/-- Every row has a first place of its greatest value. -/
theorem exists_isFirst (f : Fin 900 → EReal) : ∃ k, IsFirst f k := by
  classical
  obtain ⟨a, -, ha⟩ := Finset.exists_max_image Finset.univ f ⟨0, Finset.mem_univ _⟩
  have hne : (Finset.univ.filter fun j => f j = f a).Nonempty := ⟨a, by simp⟩
  have hk := Finset.min'_mem _ hne
  rw [Finset.mem_filter] at hk
  refine ⟨(Finset.univ.filter fun j => f j = f a).min' hne, fun j => ?_, fun j hj => ?_⟩
  · rw [hk.2]; exact ha j (Finset.mem_univ _)
  · exact Finset.min'_le _ _ (by rw [Finset.mem_filter]; exact ⟨Finset.mem_univ _, hj.trans hk.2⟩)

/-- The first place of the row's greatest value. -/
def first (f : Fin 900 → EReal) : Fin 900 := Classical.choose (exists_isFirst f)

/-- What the first place of the greatest value is chosen for. -/
theorem isFirst_first (f : Fin 900 → EReal) : IsFirst f (first f) := Classical.choose_spec (exists_isFirst f)

/-- A place below 900, as a signed word, is that number. -/
theorem toInt_place (n : Nat) (h : n ≤ 900) : (BitVec.ofNat 32 n).toInt = n := by
  rw [BitVec.toInt_eq_toNat_of_lt (by rw [BitVec.toNat_ofNat]; omega), BitVec.toNat_ofNat,
    Nat.mod_eq_of_lt (by omega)]

/-- Two places below 900 are the same word only when they are the same place. -/
theorem place_inj (j k : Fin 900) : BitVec.ofNat 32 j.val = BitVec.ofNat 32 k.val ↔ j = k := by
  constructor
  · intro h
    have h' := congrArg BitVec.toInt h
    rw [toInt_place _ (by omega), toInt_place _ (by omega)] at h'
    exact Fin.ext (by exact_mod_cast h')
  · rintro rfl; rfl

/-- The running maximum of a row from the least value is the value at the first place. -/
theorem fold_max_first (f : Fin 900 → EReal) : Finset.univ.fold max ⊥ f = f (first f) :=
  le_antisymm ((Finset.fold_max_le _).2 ⟨bot_le, fun j _ => (isFirst_first f).1 j⟩)
    ((Finset.le_fold_max _).2 (Or.inr ⟨first f, Finset.mem_univ _, le_rfl⟩))

/-- The running signed minimum over a set, from any start: it is at most the start and every word met, and it
    is one of them. -/
theorem fold_minsi_mem {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨le_rfl, fun i hi => absurd hi (Finset.notMem_empty i), Or.inl rfl⟩
  | insert a s has ih =>
    obtain ⟨h1, h2, h3⟩ := ih
    rw [Finset.fold_insert has]
    have hm := SortNet.toInt_minsi (g a) (s.fold IntOp.minsi init g)
    refine ⟨?_, fun i hi => ?_, ?_⟩
    · rw [hm]; exact (min_le_right _ _).trans h1
    · rcases Finset.mem_insert.mp hi with rfl | hi
      · rw [hm]; exact min_le_left _ _
      · rw [hm]; exact (min_le_right _ _).trans (h2 i hi)
    · rcases min_choice (g a).toInt (s.fold IntOp.minsi init g).toInt with h | h
      · exact Or.inr ⟨a, Finset.mem_insert_self a s, BitVec.eq_of_toInt_eq (hm.trans h)⟩
      · have he := BitVec.eq_of_toInt_eq (hm.trans h)
        rcases h3 with h3 | ⟨i, hi, h3⟩
        · exact Or.inl (he.trans h3)
        · exact Or.inr ⟨i, Finset.mem_insert_of_mem hi, he.trans h3⟩

/-- The smallest place among those that hold the row's greatest value (900 standing for the others) is the first
    place. -/
theorem fold_minsi_first (f : Fin 900 → EReal) :
    (Finset.univ.fold IntOp.minsi 2147483647#32
      fun j : Fin 900 => if f j = f (first f) then BitVec.ofNat 32 j.val else 900#32) = BitVec.ofNat 32 (first f).val := by
  obtain ⟨h1, h2, h3⟩ := fold_minsi_mem
    (fun j : Fin 900 => if f j = f (first f) then BitVec.ofNat 32 j.val else 900#32) Finset.univ 2147483647#32
  have hk := h2 (first f) (Finset.mem_univ _)
  rw [if_pos rfl, toInt_place _ (by omega)] at hk
  have hlt : (first f).val < 900 := (first f).isLt
  rcases h3 with h3 | ⟨i, -, h3⟩
  · rw [h3] at hk
    have : (2147483647#32 : BitVec 32).toInt = 2147483647 := by decide
    omega
  · by_cases hi : f i = f (first f)
    · rw [if_pos hi] at h3
      rw [h3, toInt_place _ (by omega)] at hk
      have := (isFirst_first f).2 i hi
      rw [h3, show i = first f from le_antisymm (Fin.le_def.2 (by exact_mod_cast hk)) this]
    · rw [if_neg hi] at h3
      rw [h3] at hk
      have : (900#32 : BitVec 32).toInt = 900 := by decide
      omega

/-- A place below 900 is not changed by the signed minimum with 899. -/
theorem minsi_899 (k : Fin 900) : IntOp.minsi (BitVec.ofNat 32 k.val) 899#32 = BitVec.ofNat 32 k.val := by
  have hk := k.isLt
  refine BitVec.eq_of_toInt_eq ?_
  rw [SortNet.toInt_minsi, toInt_place _ (by omega), show (899#32 : BitVec 32).toInt = 899 by decide]
  omega

/-- The greatest of the values of `g` masked to the one place `k` (zero elsewhere) is `g k`, when `g` is nowhere
    negative. -/
theorem fold_max_masked (g : Fin 900 → EReal) (hg : ∀ j, 0 ≤ g j) (k : Fin 900) :
    (Finset.univ.fold max ⊥ fun j : Fin 900 => if j = k then g j else 0) = g k := by
  refine le_antisymm ((Finset.fold_max_le _).2 ⟨bot_le, fun j _ => ?_⟩)
    ((Finset.le_fold_max _).2 (Or.inr ⟨k, Finset.mem_univ _, by simp⟩))
  by_cases h : j = k
  · rw [if_pos h, h]
  · rw [if_neg h]; exact hg k

/-- Pair `p` is no better than pair `q`: a smaller value, or the same value at a place no smaller. -/
def Le (p q : EReal × BitVec 32) : Prop := p.1 < q.1 ∨ p.1 = q.1 ∧ q.2.toInt ≤ p.2.toInt

/-- A pair is no better than itself. -/
theorem Le.refl (p : EReal × BitVec 32) : Le p p := Or.inr ⟨rfl, le_rfl⟩

/-- "No better than" is transitive. -/
theorem Le.trans {p q r : EReal × BitVec 32} (h : Le p q) (h' : Le q r) : Le p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi'.trans hi⟩

/-- A left fold by an operation that returns one of its two pairs, neither better than it, returns the start or
    a member of the list, and no better pair is among them — in whatever order the list stands. -/
theorem foldl_best (op : EReal × BitVec 32 → EReal × BitVec 32 → EReal × BitVec 32)
    (hop : ∀ a b, (op a b = a ∨ op a b = b) ∧ Le a (op a b) ∧ Le b (op a b)) (L : List (EReal × BitVec 32)) :
    ∀ init, (L.foldl op init = init ∨ L.foldl op init ∈ L) ∧ Le init (L.foldl op init)
      ∧ ∀ p ∈ L, Le p (L.foldl op init) := by
  induction L with
  | nil => intro init; exact ⟨Or.inl rfl, Le.refl _, fun p hp => absurd hp List.not_mem_nil⟩
  | cons b L ih =>
    intro init
    obtain ⟨h1, h2, h3⟩ := ih (op init b)
    obtain ⟨c1, c2, c3⟩ := hop init b
    rw [List.foldl_cons]
    refine ⟨?_, c2.trans h2, fun p hp => ?_⟩
    · rcases h1 with h1 | h1
      · rcases c1 with c1 | c1
        · exact Or.inl (h1.trans c1)
        · exact Or.inr (by rw [h1, c1]; exact List.mem_cons_self)
      · exact Or.inr (List.mem_cons_of_mem _ h1)
    · rcases List.mem_cons.mp hp with rfl | hp
      · exact c3.trans h2
      · exact h3 p hp

/-- Such a fold from (least value, place 0) over a list that holds exactly the row's pairs ends at the first place
    of the row's greatest value. -/
theorem foldl_first (op : EReal × BitVec 32 → EReal × BitVec 32 → EReal × BitVec 32)
    (hop : ∀ a b, (op a b = a ∨ op a b = b) ∧ Le a (op a b) ∧ Le b (op a b)) (f : Fin 900 → EReal)
    (L : List (EReal × BitVec 32)) (hL : ∀ p, p ∈ L ↔ ∃ k : Fin 900, p = (f k, BitVec.ofNat 32 k.val)) :
    (L.foldl op (⊥, 0#32)).2 = BitVec.ofNat 32 (first f).val := by
  obtain ⟨h1, -, h3⟩ := foldl_best op hop L (⊥, 0#32)
  have hk : ∃ k : Fin 900, L.foldl op (⊥, 0#32) = (f k, BitVec.ofNat 32 k.val) := by
    rcases h1 with h1 | h1
    · refine ⟨0, ?_⟩
      have h0 := h3 _ ((hL _).2 ⟨0, rfl⟩)
      rw [h1] at h0 ⊢
      rcases h0 with h0 | ⟨h0, -⟩
      · exact absurd h0 not_lt_bot
      · exact Prod.ext h0.symm rfl
    · exact (hL _).1 h1
  obtain ⟨k, hk⟩ := hk
  rw [hk]
  have hle : ∀ j, Le (f j, BitVec.ofNat 32 j.val) (f k, BitVec.ofNat 32 k.val) := fun j => by
    have := h3 _ ((hL _).2 ⟨j, rfl⟩); rwa [hk] at this
  have hmax : ∀ j, f j ≤ f k := fun j => by
    rcases hle j with h | ⟨h, -⟩
    · exact le_of_lt h
    · exact le_of_eq h
  have heq : f (first f) = f k := le_antisymm (hmax _) ((isFirst_first f).1 k)
  have hge := (isFirst_first f).2 k heq.symm
  rcases hle (first f) with h | ⟨-, h⟩
  · exact absurd heq (ne_of_lt h)
  · simp only [toInt_place _ (Nat.le_of_lt (Fin.isLt _))] at h
    rw [show k = first f from le_antisymm (Fin.le_def.2 (by exact_mod_cast h)) hge]

end Cert.Pairs

end
-- ==== Proof.Spec.lean ====
/- The pairs of one batch as a function of its boxes: box corners, overlaps, each box's partner, and the pair in
   the order of the two half perimeters. Both programs are shown to compute these. -/
module

public import proofs.«01_k».proof.Proof.First

@[expose] public section

noncomputable section

namespace Cert.Pairs

open Idealize.ShloMosaic

/-- One half, as the programs write it. -/
def half : EReal := (Scalar.ofBits .f32 0x3F000000#32 : Ideal .f32)

variable (X : Fin 900 → Fin 4 → EReal)

/-- The left edge of box `i`. -/
def x1 (i : Fin 900) : EReal := X i 0 - half * X i 3
/-- The lower edge of box `i`. -/
def y1 (i : Fin 900) : EReal := X i 1 - half * X i 2
/-- The right edge of box `i`. -/
def x2 (i : Fin 900) : EReal := X i 0 + half * X i 3
/-- The upper edge of box `i`. -/
def y2 (i : Fin 900) : EReal := X i 1 + half * X i 2

/-- The area of box `i`. -/
def area (i : Fin 900) : EReal := (x2 X i - x1 X i) * (y2 X i - y1 X i)

/-- What the programs take for the intersection of boxes `i` and `j`. -/
def inter (i j : Fin 900) : EReal :=
  max (max (x2 X i) (x2 X j) - max (x1 X i) (x1 X j)) 0 * max (max (y2 X i) (y2 X j) - max (y1 X i) (y1 X j)) 0

/-- The overlap of boxes `i` and `j`, one less on the diagonal. -/
def overlap (i j : Fin 900) : EReal :=
  Ideal.div (inter X i j) (area X i + area X j - inter X i j) - if i = j then 1 else 0

/-- The half perimeter of box `i`. -/
def span (i : Fin 900) : EReal :=
  max (x2 X i - x1 X i) (-(x2 X i - x1 X i)) + max (y2 X i - y1 X i) (-(y2 X i - y1 X i))

/-- The partner of box `i`: the first box of largest overlap with it. -/
def partner (i : Fin 900) : Fin 900 := first (overlap X i)

/-- Entry `c` of pair `i`: the box itself first when its half perimeter is at least its partner's, last otherwise. -/
def pair (i : Fin 900) (c : Fin 2) : BitVec 32 :=
  if span X (partner X i) ≤ span X i then (if c = 0 then BitVec.ofNat 32 i.val else BitVec.ofNat 32 (partner X i).val)
  else (if c = 0 then BitVec.ofNat 32 (partner X i).val else BitVec.ofNat 32 i.val)

/-- An absolute value is not negative. -/
theorem abs_nonneg' (a : EReal) : 0 ≤ max a (-a) := by
  rcases le_total 0 a with h | h
  · exact le_max_of_le_left h
  · exact le_max_of_le_right (by simpa using EReal.neg_le_neg_iff.2 h)

/-- A half perimeter is not negative. -/
theorem span_nonneg (i : Fin 900) : 0 ≤ span X i := add_nonneg (abs_nonneg' _) (abs_nonneg' _)

/-- The word of minus infinity reads as the least extended real. -/
theorem neg_inf : Ideal.ofBits .f32 0xFF800000#32 = ⊥ := by
  simp [Ideal.ofBits, Ideal.ieee]

/-- Choosing by the equality of two places' words is choosing by the equality of the places. -/
theorem select_place {α : Type} (i j : Fin 900) (a b : α) :
    Scalar.select (IntOp.cmpi .eq (BitVec.ofNat 32 i.val) (BitVec.ofNat 32 j.val)) a b = if i = j then a else b := by
  unfold Scalar.select
  by_cases h : i = j
  · rw [if_pos h, if_pos]; rw [h]; simp [IntOp.cmpi]
  · rw [if_neg h, if_neg]
    have : ¬ BitVec.ofNat 32 i.val = BitVec.ofNat 32 j.val := fun e => h ((place_inj i j).1 e)
    simp only [IntOp.cmpi, beq_eq_false_iff_ne.2 this]
    decide

end Cert.Pairs

end
-- ==== Proof.Block.lean ====
/- What one grid point of the kernel stores, read entry by entry: the pairs of the block's boxes. -/
module

public import proofs.«01_k».proof.Proof.Spec
public import proofs.«01_k».proof.Proof.Gen.KernelIdeal.Value

@[expose] public section

set_option maxRecDepth 16384

noncomputable section

namespace Cert.KernelIdeal.Value

open Cert.KernelIdeal Cert.KernelIdeal.Gen Idealize.ShloMosaic Cert.Pairs

variable (X : Fin 900 → Fin 4 → EReal)
variable (v0 : FVec Ideal S1x900x4 .f32) (v2 : FVec Ideal S1x4x900 .f32)

section Columns
variable (h0 : ∀ i c, v0 (ix3 0 i c) = X i c)
include h0

/-- The column of left edges. -/
theorem col_x1 (i : Fin 900) : (k0_pay8 (F := Ideal) v0 (ix2 i 0) : EReal) = x1 X i := by
  pointwise [k0_pay8, k0_pay4, k0_pay7, k0_pay2, h0, x1, half]
/-- The column of lower edges. -/
theorem col_y1 (i : Fin 900) : (k0_pay9 (F := Ideal) v0 (ix2 i 0) : EReal) = y1 X i := by
  pointwise [k0_pay9, k0_pay5, k0_pay6, k0_pay2, h0, y1, half]
/-- The column of right edges. -/
theorem col_x2 (i : Fin 900) : (k0_pay10 (F := Ideal) v0 (ix2 i 0) : EReal) = x2 X i := by
  pointwise [k0_pay10, k0_pay4, k0_pay7, k0_pay2, h0, x2, half]
/-- The column of upper edges. -/
theorem col_y2 (i : Fin 900) : (k0_pay11 (F := Ideal) v0 (ix2 i 0) : EReal) = y2 X i := by
  pointwise [k0_pay11, k0_pay5, k0_pay6, k0_pay2, h0, y2, half]

end Columns

section Rows
variable (h2 : ∀ c i, v2 (ix3 0 c i) = X i c)
include h2

/-- The row of left edges. -/
theorem row_x1 (i : Fin 900) : (k0_pay16 (F := Ideal) v2 (ix2 0 i) : EReal) = x1 X i := by
  pointwise [k0_pay16, k0_pay12, k0_pay15, k0_pay3, h2, x1, half]
/-- The row of lower edges. -/
theorem row_y1 (i : Fin 900) : (k0_pay17 (F := Ideal) v2 (ix2 0 i) : EReal) = y1 X i := by
  pointwise [k0_pay17, k0_pay13, k0_pay14, k0_pay3, h2, y1, half]
/-- The row of right edges. -/
theorem row_x2 (i : Fin 900) : (k0_pay18 (F := Ideal) v2 (ix2 0 i) : EReal) = x2 X i := by
  pointwise [k0_pay18, k0_pay12, k0_pay15, k0_pay3, h2, x2, half]
/-- The row of upper edges. -/
theorem row_y2 (i : Fin 900) : (k0_pay19 (F := Ideal) v2 (ix2 0 i) : EReal) = y2 X i := by
  pointwise [k0_pay19, k0_pay13, k0_pay14, k0_pay3, h2, y2, half]

end Rows

/-- The width of the intersection before it is cut at zero. -/
theorem width (h0 : ∀ i c, v0 (ix3 0 i c) = X i c) (h2 : ∀ c i, v2 (ix3 0 c i) = X i c) (i j : Fin 900) :
    (k0_pay20 (F := Ideal) v0 v2 (ix2 i j) : EReal) = max (x2 X i) (x2 X j) - max (x1 X i) (x1 X j) := by
  pointwise [k0_pay20, col_x1 X v0 h0, col_x2 X v0 h0, row_x1 X v2 h2, row_x2 X v2 h2]

section Pairs
variable (a1 b1 a2 b2 : FVec Ideal S900x1 .f32) (r1 s1 r2 s2 : FVec Ideal S1x900 .f32) (w z : FVec Ideal S900x900 .f32)
variable (ha1 : ∀ i, a1 (ix2 i 0) = x1 X i) (hb1 : ∀ i, b1 (ix2 i 0) = y1 X i) (ha2 : ∀ i, a2 (ix2 i 0) = x2 X i)
  (hb2 : ∀ i, b2 (ix2 i 0) = y2 X i) (hr1 : ∀ i, r1 (ix2 0 i) = x1 X i) (hs1 : ∀ i, s1 (ix2 0 i) = y1 X i)
  (hr2 : ∀ i, r2 (ix2 0 i) = x2 X i) (hs2 : ∀ i, s2 (ix2 0 i) = y2 X i)
  (hw : ∀ i j, w (ix2 i j) = max (x2 X i) (x2 X j) - max (x1 X i) (x1 X j)) (hz : ∀ i j, z (ix2 i j) = (0 : EReal))
include ha1 hb1 ha2 hb2 hr1 hs1 hr2 hs2 hw hz

/-- The column of partners. -/
theorem col_partner (i : Fin 900) :
    k0_pay22 (F := Ideal) a1 b1 a2 b2 r1 s1 r2 s2 w z (ix2 i 0) = BitVec.ofNat 32 (partner X i).val := by
  pointwise [k0_pay22, ha1, hb1, ha2, hb2, hr1, hs1, hr2, hs2, hw, hz]
  simp only [select_place, neg_inf]
  show IntOp.minsi (Finset.univ.fold IntOp.minsi 2147483647#32 fun j : Fin 900 =>
    if overlap X i j = Finset.univ.fold max ⊥ (overlap X i) then BitVec.ofNat 32 j.val else 900#32) 899#32 = _
  rw [fold_max_first, fold_minsi_first, minsi_899]
  rfl

/-- The mask of the partner's place in each row. -/
theorem mask_partner (i j : Fin 900) :
    k0_pay24 (F := Ideal) a1 b1 a2 b2 r1 s1 r2 s2 w z (ix2 i j)
      = IntOp.cmpi .eq (BitVec.ofNat 32 j.val) (BitVec.ofNat 32 (partner X i).val) := by
  pointwise [k0_pay24, col_partner X a1 b1 a2 b2 r1 s1 r2 s2 w z ha1 hb1 ha2 hb2 hr1 hs1 hr2 hs2 hw hz]

omit hr1 hs1 hr2 hs2 hw hz in
/-- The column of half perimeters. -/
theorem col_span (i : Fin 900) : (k0_pay23 (F := Ideal) a1 b1 a2 b2 (ix2 i 0) : EReal) = span X i := by
  pointwise [k0_pay23, ha1, hb1, ha2, hb2]
  rfl

omit ha1 hb1 ha2 hb2 hw hz in
/-- The half perimeters along every row. -/
theorem row_span (i j : Fin 900) : (k0_pay25 (F := Ideal) r1 s1 r2 s2 (ix2 i j) : EReal) = span X j := by
  pointwise [k0_pay25, hr1, hs1, hr2, hs2]
  rfl

end Pairs

/-- The pairs, given the partners, the half perimeters and the mask. -/
theorem pairs (u : IVec S900x1 32) (l : FVec Ideal S900x1 .f32) (k : IVec S900x900 1) (g : FVec Ideal S900x900 .f32)
    (hu : ∀ i, u (ix2 i 0) = BitVec.ofNat 32 (partner X i).val) (hl : ∀ i, l (ix2 i 0) = span X i)
    (hk : ∀ i j, k (ix2 i j) = IntOp.cmpi .eq (BitVec.ofNat 32 j.val) (BitVec.ofNat 32 (partner X i).val))
    (hg : ∀ i j, g (ix2 i j) = span X j) (i : Fin 900) (c : Fin 2) :
    k0_pay1 (F := Ideal) u l k g (ix3 0 i c) = pair X i c := by
  have hm := fold_max_masked (span X) (span_nonneg X) (partner X i)
  obtain rfl | rfl : c = 0 ∨ c = 1 := by omega
  · pointwise [k0_pay1, hu, hl, hk, hg]
    simp only [select_place, neg_inf, hm]
    rfl
  · pointwise [k0_pay1, hu, hl, hk, hg]
    simp only [select_place, neg_inf, hm]
    rfl

end Cert.KernelIdeal.Value

end
-- ==== Proof.Final.lean ====
/- The kernel's result array: entry (b, i, c) is entry c of pair i of batch b's boxes. -/
module

public import proofs.«01_k».proof.Proof.Block
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem Cert.Pairs
open Idealize.ShloMosaic.Pipeline (Dat)

/-- What the point stores, given the point's boxes and their transpose. -/
theorem stored (X : Fin 900 → Fin 4 → EReal) (v0 : FVec Ideal S1x900x4 .f32) (v2 : FVec Ideal S1x4x900 .f32)
    (h0 : ∀ i c, v0 (ix3 0 i c) = X i c) (h2 : ∀ c i, v2 (ix3 0 c i) = X i c) (i : Fin 900) (c : Fin 2) :
    out0_2 (F := Ideal) v0 v2 (ix3 0 i c) = pair X i c := by
  unfold_out out0_2
  frame_out
  have z0 : ∀ i j, (k0_pay21 (F := Ideal) (ix2 i j) : EReal) = 0 := fun i j => by pointwise [k0_pay21]
  exact pairs X _ _ _ _
    (col_partner X _ _ _ _ _ _ _ _ _ _ (col_x1 X v0 h0) (col_y1 X v0 h0) (col_x2 X v0 h0) (col_y2 X v0 h0)
      (row_x1 X v2 h2) (row_y1 X v2 h2) (row_x2 X v2 h2) (row_y2 X v2 h2) (width X v0 v2 h0 h2) z0)
    (col_span X _ _ _ _ (col_x1 X v0 h0) (col_y1 X v0 h0) (col_x2 X v0 h0) (col_y2 X v0 h0))
    (mask_partner X _ _ _ _ _ _ _ _ _ _ (col_x1 X v0 h0) (col_y1 X v0 h0) (col_x2 X v0 h0) (col_y2 X v0 h0)
      (row_x1 X v2 h2) (row_y1 X v2 h2) (row_x2 X v2 h2) (row_y2 X v2 h2) (width X v0 v2 h0 h2) z0)
    (row_span X _ _ _ _ (row_x1 X v2 h2) (row_y1 X v2 h2) (row_x2 X v2 h2) (row_y2 X v2 h2)) i c

/-- Batch `b` of an array of boxes. -/
def batch (A : S16x900x4.Idx → EReal) (b : Fin 16) (i : Fin 900) (k : Fin 4) : EReal := A (ix3 b i k)

/-- The pairs of all batches. -/
def pairsOf (A : S16x900x4.Idx → EReal) : S16x900x2.Idx → BitVec 32 := fun y => pair (batch A (y 0)) (y 1) (y 2)

variable (m : (ℓ : Loc nD τ sig) → Buf (Elt Ideal) ℓ)

/-- Where each window's block of a grid point lies. -/
theorem idx : ∀ t : Fin cfg0.N, win0_0.index t = ![t.val, 0, 0] ∧ win0_1.index t = ![t.val, 0, 0]
    ∧ win0_2.index t = ![t.val, 0, 0] :=
  (by decide +kernel : ∀ t : Fin grid0.N, _)

/-- Block `t` of the boxes is batch `t`. -/
theorem boxes_blk (c : Dev nD) (t : Fin cfg0.N) (i : Fin 900) (k : Fin 4) :
    (iblk m c 0 t (ix3 0 i k) : EReal) = batch (m ((c : Thread nD τ).loc main_arg3)) t i k := by
  unfold batch
  blk_ext! [iblk, V, idx t]

/-- Block `t` of the transposed boxes is batch `t`, transposed. -/
theorem trans_blk (c : Dev nD) (t : Fin cfg0.N) (k : Fin 4) (i : Fin 900) :
    (iblk m c 1 t (ix3 0 k i) : EReal) = batch (m ((c : Thread nD τ).loc main_arg3)) t i k := by
  unfold batch
  blk_point [iblk, V, idx t]

/-- The result array after the run. -/
theorem final (c : Dev nD) : (dats m 0 c).arrAt 2 cfg0.N = pairsOf (m ((c : Thread nD τ).loc main_arg3)) := by
  refine (dats m 0 c).arrAt_eq_of_covers 2 (pairsOf (m ((c : Thread nD τ).loc main_arg3))) (by decide +kernel) fun t _ y => ?_
  blk_simp
  rw [after0_2]
  have h1 : (y 1).val < 900 := (y 1).isLt
  have h2 : (y 2).val < 2 := (y 2).isLt
  have hy : y = ix3 (0 : Fin 1) (⟨(y 1).val, h1⟩ : Fin 900) (⟨(y 2).val, h2⟩ : Fin 2) := by
    idx_ext
  have he : (win0_2.blk t).view.emb y = ix3 (⟨t.val, t.isLt⟩ : Fin 16) (⟨(y 1).val, h1⟩ : Fin 900) (⟨(y 2).val, h2⟩ : Fin 2) := by
    blk_ext [idx t]
  rw [he]
  exact (congrArg (out0_2 (F := Ideal) (iblk m c 0 t) (iblk m c 1 t)) hy).trans
    (stored (batch (m ((c : Thread nD τ).loc main_arg3)) t) _ _ (boxes_blk m c t) (trans_blk m c t) _ _)

end Cert.KernelIdeal.Value

end
-- ==== Proof.RefCorners.lean ====
/- The reference's box corners, intersections and overlaps. -/
module

public import proofs.«01_k».proof.Proof.RefRun
public import proofs.«01_k».proof.Proof.Final

@[expose] public section

set_option maxRecDepth 65536

noncomputable section

namespace Cert.ReferenceIdeal.Value

open Cert.ReferenceIdeal Cert.ReferenceIdeal.Gen Idealize.ShloMosaic Idealize.ShloMosaic.TcCoe Idealize.SL.Sem Cert.Pairs
open Cert.KernelIdeal.Value (batch)

/-- The corner array holds the four edges of every box of `X`. -/
def Corners (V : Valuation τ sig (Elt Ideal)) (X : Fin 16 → Fin 900 → Fin 4 → EReal) : Prop :=
  ∀ (b : Fin 16) (i : Fin 900),
    (V (Proc.devRef .tc main_v24) (ix3 b i 0) : EReal) = x1 (X b) i
    ∧ (V (Proc.devRef .tc main_v24) (ix3 b i 1) : EReal) = y1 (X b) i
    ∧ (V (Proc.devRef .tc main_v24) (ix3 b i 2) : EReal) = x2 (X b) i
    ∧ (V (Proc.devRef .tc main_v24) (ix3 b i 3) : EReal) = y2 (X b) i

variable (V : Valuation τ sig (Elt Ideal)) (b : Fin 16) (i j : Fin 900)

/-- The first corner column holds the left edges. -/
theorem corners_x1 : (StableHlo.after ops_corners V (Proc.devRef .tc main_v20) (ix3 b i 0) : EReal)
    = x1 (batch (V (Proc.devRef .tc main_arg3)) b) i := by
  unfold ops_corners
  after_reads_simp
  pointwise [x1, batch, half]

/-- The second corner column holds the lower edges. -/
theorem corners_y1 : (StableHlo.after ops_corners V (Proc.devRef .tc main_v21) (ix3 b i 0) : EReal)
    = y1 (batch (V (Proc.devRef .tc main_arg3)) b) i := by
  unfold ops_corners
  after_reads_simp
  pointwise [y1, batch, half]

/-- The third corner column holds the right edges. -/
theorem corners_x2 : (StableHlo.after ops_corners V (Proc.devRef .tc main_v22) (ix3 b i 0) : EReal)
    = x2 (batch (V (Proc.devRef .tc main_arg3)) b) i := by
  unfold ops_corners
  after_reads_simp
  pointwise [x2, batch, half]

/-- The fourth corner column holds the upper edges. -/
theorem corners_y2 : (StableHlo.after ops_corners V (Proc.devRef .tc main_v23) (ix3 b i 0) : EReal)
    = y2 (batch (V (Proc.devRef .tc main_arg3)) b) i := by
  unfold ops_corners
  after_reads_simp
  pointwise [y2, batch, half]

/-- The joined columns: the first. -/
theorem boxes_0 : (StableHlo.after ops_boxes V (Proc.devRef .tc main_v24) (ix3 b i 0) : EReal)
    = V (Proc.devRef .tc main_v20) (ix3 b i 0) := by
  unfold ops_boxes
  after_reads_simp
  pointwise []

/-- The joined columns: the second. -/
theorem boxes_1 : (StableHlo.after ops_boxes V (Proc.devRef .tc main_v24) (ix3 b i 1) : EReal)
    = V (Proc.devRef .tc main_v21) (ix3 b i 0) := by
  unfold ops_boxes
  after_reads_simp
  pointwise []

/-- The joined columns: the third. -/
theorem boxes_2 : (StableHlo.after ops_boxes V (Proc.devRef .tc main_v24) (ix3 b i 2) : EReal)
    = V (Proc.devRef .tc main_v22) (ix3 b i 0) := by
  unfold ops_boxes
  after_reads_simp
  pointwise []

/-- The joined columns: the fourth. -/
theorem boxes_3 : (StableHlo.after ops_boxes V (Proc.devRef .tc main_v24) (ix3 b i 3) : EReal)
    = V (Proc.devRef .tc main_v23) (ix3 b i 0) := by
  unfold ops_boxes
  after_reads_simp
  pointwise []

/-- After the first two lists the corner array holds the edges of the argument's boxes. -/
theorem corners : Corners (StableHlo.after ops_boxes (StableHlo.after ops_corners V)) (batch (V (Proc.devRef .tc main_arg3))) :=
  fun b i => ⟨(boxes_0 _ b i).trans (corners_x1 V b i), (boxes_1 _ b i).trans (corners_y1 V b i),
    (boxes_2 _ b i).trans (corners_x2 V b i), (boxes_3 _ b i).trans (corners_y2 V b i)⟩

variable {V} {X : Fin 16 → Fin 900 → Fin 4 → EReal} (h : Corners V X)
include h

/-- The intersections, from the corners. -/
theorem inters_at : (StableHlo.after ops_inters V (Proc.devRef .tc main_v44) (ix3 b i j) : EReal) = inter (X b) i j := by
  unfold ops_inters
  after_reads_simp
  obtain ⟨hi0, hi1, hi2, hi3⟩ := h b i
  obtain ⟨hj0, hj1, hj2, hj3⟩ := h b j
  pointwise [inter, hi0, hi1, hi2, hi3, hj0, hj1, hj2, hj3]

omit h in
/-- The equality of two places, as a number. -/
theorem place_eq_num : (FloatOps.uitofp (F := Ideal) FTy.f32
      (IntOp.cmpi CmpIPredicate.eq (IntOp.addi (BitVec.ofNat 32 i.val) 0#32) (BitVec.ofNat 32 j.val)) : EReal)
    = if i = j then 1 else 0 := by
  have hz : IntOp.addi (BitVec.ofNat 32 i.val) 0#32 = BitVec.ofNat 32 i.val := by simp [IntOp.addi]
  rw [hz]
  by_cases e : i = j
  · rw [if_pos e, e]
    simp [FloatOps.uitofp, IntOp.cmpi]
  · have hn : ¬ BitVec.ofNat 32 i.val = BitVec.ofNat 32 j.val := fun w => e ((place_inj i j).1 w)
    rw [if_neg e]
    simp only [IntOp.cmpi, beq_eq_false_iff_ne.2 hn]
    simp [FloatOps.uitofp]

/-- The overlaps, from the corners and the intersections. -/
theorem overlaps_at (h44 : ∀ b i j, (V (Proc.devRef .tc main_v44) (ix3 b i j) : EReal) = inter (X b) i j) :
    (StableHlo.after ops_overlaps V (Proc.devRef .tc main_v71) (ix3 b i j) : EReal) = overlap (X b) i j := by
  unfold ops_overlaps
  after_reads_simp
  obtain ⟨hi0, hi1, hi2, hi3⟩ := h b i
  obtain ⟨hj0, hj1, hj2, hj3⟩ := h b j
  pointwise [overlap, area, hi0, hi1, hi2, hi3, hj0, hj1, hj2, hj3, h44 b i j]
  rw [place_eq_num]

end Cert.ReferenceIdeal.Value

end
-- ==== Proof.RefPartner.lean ====
/- The reference's partners: its scan for the largest overlap keeps the first place of it. -/
module

public import proofs.«01_k».proof.Proof.RefCorners

@[expose] public section

set_option maxRecDepth 65536

noncomputable section

namespace Cert.ReferenceIdeal.Value

open Cert.ReferenceIdeal Cert.ReferenceIdeal.Gen Idealize.ShloMosaic Idealize.ShloMosaic.TcCoe Idealize.SL.Sem Cert.Pairs

/-- An entry of the overlaps belongs to the box its first two coordinates name. -/
theorem drop_at (n : S16x900x900.Idx) (b : Fin 16) (q : Fin 900) :
    reducesTo_S16x900x900_S16x900_d2.drop n = ix2 b q ↔ ∃ k : Fin 900, n = ix3 b q k := by
  constructor
  · intro h
    refine ⟨n 2, ?_⟩
    have h0 : n 0 = b := congrFun h 0
    have h1 : n 1 = q := congrFun h 1
    funext a
    match a with
    | ⟨0, _⟩ => exact h0
    | ⟨1, _⟩ => exact h1
    | ⟨2, _⟩ => rfl
  · rintro ⟨k, rfl⟩
    funext a
    match a with
    | ⟨0, _⟩ => rfl
    | ⟨1, _⟩ => rfl

/-- The entries the scan of one box visits: every overlap of it, with its place. -/
theorem mem_fiber (x : S16x900x900.Idx → EReal) (b : Fin 16) (q : Fin 900) (p : EReal × BitVec 32) :
    p ∈ Host.argReduceFiber x (iotaInDim S16x900x900 32 2) reducesTo_S16x900x900_S16x900_d2 (ix2 b q)
      ↔ ∃ k : Fin 900, p = (x (ix3 b q k), BitVec.ofNat 32 k.val) := by
  unfold Host.argReduceFiber
  simp only [List.mem_map, List.mem_filter, List.mem_finRange, true_and, decide_eq_true_eq]
  constructor
  · rintro ⟨n, hn, rfl⟩
    obtain ⟨k, hk⟩ := (drop_at _ b q).1 hn
    exact ⟨k, by rw [hk]; rfl⟩
  · rintro ⟨k, rfl⟩
    refine ⟨S16x900x900.rowMajor (ix3 b q k), ?_, ?_⟩
    · rw [Equiv.symm_apply_apply]; exact (drop_at _ b q).2 ⟨k, rfl⟩
    · rw [Equiv.symm_apply_apply]; rfl

/-- One step of the scan keeps the better of its two entries. -/
theorem step (a b : EReal × BitVec 32) :
    (reducer_argmax_f32_i32 (F := Ideal) a b = a ∨ reducer_argmax_f32_i32 (F := Ideal) a b = b)
      ∧ Le a (reducer_argmax_f32_i32 (F := Ideal) a b) ∧ Le b (reducer_argmax_f32_i32 (F := Ideal) a b) := by
  obtain ⟨a1, a2⟩ := a
  obtain ⟨b1, b2⟩ := b
  have hs : reducer_argmax_f32_i32 (F := Ideal) (a1, a2) (b1, b2)
      = if b1 < a1 then (a1, a2) else if a1 = b1 ∧ a2.toInt < b2.toInt then (a1, a2) else (b1, b2) := by
    have hu : FloatOps.cmpf (F := Ideal) (φ := .f32) .une a1 a1 = 0#1 := by simp [FloatOps.cmpf, Ideal.cmp]
    have hg : FloatOps.cmpf (F := Ideal) (φ := .f32) .ogt a1 b1 = if b1 < a1 then 1#1 else 0#1 := by
      by_cases h : b1 < a1 <;> simp [FloatOps.cmpf, Ideal.cmp, h]
    have he : FloatOps.cmpf (F := Ideal) (φ := .f32) .oeq a1 b1 = if a1 = b1 then 1#1 else 0#1 := by
      by_cases h : a1 = b1 <;> simp [FloatOps.cmpf, Ideal.cmp, h]
    have hl : IntOp.cmpi .slt a2 b2 = if a2.toInt < b2.toInt then 1#1 else 0#1 := by
      by_cases h : a2.toInt < b2.toInt <;> simp [IntOp.cmpi, BitVec.slt, h]
    unfold reducer_argmax_f32_i32
    simp only [hu, hg, he, hl]
    by_cases h1 : b1 < a1
    · have h2 : ¬ a1 = b1 := fun e => absurd h1 (e ▸ lt_irrefl _)
      simp [h1, h2, Scalar.select, IntOp.ori, IntOp.andi]
    · by_cases h2 : a1 = b1
      · by_cases h3 : a2.toInt < b2.toInt <;> simp [h1, h2, h3, Scalar.select, IntOp.ori, IntOp.andi]
      · simp [h1, h2, Scalar.select, IntOp.ori, IntOp.andi]
  rw [hs]
  by_cases h1 : b1 < a1
  · rw [if_pos h1]
    exact ⟨Or.inl rfl, Le.refl _, Or.inl h1⟩
  · rw [if_neg h1]
    by_cases h2 : a1 = b1 ∧ a2.toInt < b2.toInt
    · rw [if_pos h2]
      exact ⟨Or.inl rfl, Le.refl _, Or.inr ⟨h2.1.symm, le_of_lt h2.2⟩⟩
    · rw [if_neg h2]
      refine ⟨Or.inr rfl, ?_, Le.refl _⟩
      rcases lt_or_eq_of_le (not_lt.1 h1) with h | h
      · exact Or.inl h
      · exact Or.inr ⟨h, not_lt.1 fun w => h2 ⟨h, w⟩⟩

variable (V : Valuation τ sig (Elt Ideal)) (b : Fin 16) (q : Fin 900)

/-- The partners' list with any two functions in place of the scan's two results: it leaves the second function's
    value at the overlaps and the places. -/
theorem scan_with (e : (⟨S16x900x900, .f32⟩ : BufTy).Contents (Elt Ideal) → (⟨S16x900x900, .i32⟩ : BufTy).Contents (Elt Ideal)
      → (⟨S_, .f32⟩ : BufTy).Contents (Elt Ideal) → (⟨S_, .i32⟩ : BufTy).Contents (Elt Ideal)
      → (⟨S16x900, .f32⟩ : BufTy).Contents (Elt Ideal))
    (f : (⟨S16x900x900, .f32⟩ : BufTy).Contents (Elt Ideal) → (⟨S16x900x900, .i32⟩ : BufTy).Contents (Elt Ideal)
      → (⟨S_, .f32⟩ : BufTy).Contents (Elt Ideal) → (⟨S_, .i32⟩ : BufTy).Contents (Elt Ideal)
      → (⟨S16x900, .i32⟩ : BufTy).Contents (Elt Ideal)) :
    StableHlo.after ([
  StableHlo.nullary main_v72 (iotaInDim S900 32 0),
  StableHlo.unary main_v72 main_v73 (broadcastInDim S1x900 ![1] bcast_S900_S1x900_1 : (⟨S900, .i32⟩ : BufTy).Contents (Elt Ideal) → (⟨S1x900, .i32⟩ : BufTy).Contents (Elt Ideal)),
  StableHlo.unary main_v73 main_v74 (broadcastInDim S16x900 ![0, 1] bcast_S1x900_S16x900_0_1 : (⟨S1x900, .i32⟩ : BufTy).Contents (Elt Ideal) → (⟨S16x900, .i32⟩ : BufTy).Contents (Elt Ideal)),
  StableHlo.TRef.nullary main_call0.v0 (iotaInDim S16x900x900 32 2),
  StableHlo.TRef.nullary main_call0.cst (constant (F := Ideal) S_ .f32 0xFF800000#32),
  StableHlo.TRef.nullary main_call0.c (constantI S_ 32 0#32),
  StableHlo.TRef.quaternary (.of main_v71 : StableHlo.TRef sig ⟨S16x900x900, .f32⟩) main_call0.v0 main_call0.cst main_call0.c main_call0.v1_0 e,
  StableHlo.TRef.quaternary (.of main_v71 : StableHlo.TRef sig ⟨S16x900x900, .f32⟩) main_call0.v0 main_call0.cst main_call0.c main_call0.v1_1 f] : List (HloOp τ sig (Elt Ideal))) V (Proc.devRef .tc main_v75)
    = f (V (Proc.devRef .tc main_v71)) (iotaInDim S16x900x900 32 2) (constant (F := Ideal) S_ .f32 0xFF800000#32) (constantI S_ 32 0#32) := by
  after_reads_simp
  rfl

/-- What the partners' list leaves: the places of one scan. -/
theorem partners_scan : (StableHlo.after ops_partners V (Proc.devRef .tc main_v75) (ix2 b q) : BitVec 32)
    = (Host.argReduce (reducer_argmax_f32_i32 (F := Ideal)) (V (Proc.devRef .tc main_v71) : S16x900x900.Idx → EReal)
        (iotaInDim S16x900x900 32 2) (constant (F := Ideal) S_ .f32 0xFF800000#32) (constantI S_ 32 0#32)
        reducesTo_S16x900x900_S16x900_d2 h_S_ (ix2 b q)).2 :=
  congrFun (scan_with V _ _) (ix2 b q)

/-- The partners, from the overlaps. -/
theorem partners_at {X : Fin 16 → Fin 900 → Fin 4 → EReal}
    (h71 : ∀ b i j, (V (Proc.devRef .tc main_v71) (ix3 b i j) : EReal) = overlap (X b) i j) :
    (StableHlo.after ops_partners V (Proc.devRef .tc main_v75) (ix2 b q) : BitVec 32) = BitVec.ofNat 32 (partner (X b) q).val := by
  rw [partners_scan, Ideal.argReduce_eq_reduce2, Host.reduce2_eq_foldl_fiber]
  have hi : (constant (F := Ideal) S_ .f32 0xFF800000#32 (Shape.Idx.first h_S_), constantI S_ 32 0#32 (Shape.Idx.first h_S_))
      = ((⊥ : EReal), 0#32) := Prod.ext neg_inf rfl
  rw [hi]
  refine foldl_first _ step (overlap (X b) q) _ fun p => ?_
  rw [mem_fiber]
  simp only [h71]

end Cert.ReferenceIdeal.Value

end
-- ==== Proof.RefOrder.lean ====
/- The reference's pairs, half perimeters and order. -/
module

public import proofs.«01_k».proof.Proof.RefCorners

@[expose] public section

set_option maxRecDepth 65536

noncomputable section

namespace Cert.ReferenceIdeal.Value

open Cert.ReferenceIdeal Cert.ReferenceIdeal.Gen Idealize.ShloMosaic Idealize.ShloMosaic.TcCoe Idealize.SL.Sem Cert.Pairs

variable (V : Valuation τ sig (Elt Ideal)) (b : Fin 16) (i j : Fin 900)

/-- The places along the boxes. -/
theorem places_at : (StableHlo.after ops_partners V (Proc.devRef .tc main_v74) (ix2 b i) : BitVec 32) = BitVec.ofNat 32 i.val := by
  unfold ops_partners
  after_reads_simp
  pointwise []

/-- The pairs' first entries. -/
theorem spans_fst : (StableHlo.after ops_spans V (Proc.devRef .tc main_v78) (ix3 b i 0) : BitVec 32)
    = V (Proc.devRef .tc main_v74) (ix2 b i) := by
  unfold ops_spans
  after_reads_simp
  pointwise [joinI]

/-- The pairs' second entries. -/
theorem spans_snd : (StableHlo.after ops_spans V (Proc.devRef .tc main_v78) (ix3 b i 1) : BitVec 32)
    = V (Proc.devRef .tc main_v75) (ix2 b i) := by
  unfold ops_spans
  after_reads_simp
  pointwise [joinI]

/-- The partners, cut out of the pairs again. -/
theorem spans_partner : (StableHlo.after ops_spans V (Proc.devRef .tc main_v93) (ix2 b i) : BitVec 32)
    = V (Proc.devRef .tc main_v75) (ix2 b i) := by
  unfold ops_spans
  after_reads_simp
  pointwise [joinI]

/-- The half perimeters, from the corners. -/
theorem spans_at {X : Fin 16 → Fin 900 → Fin 4 → EReal} (h : Corners V X) :
    (StableHlo.after ops_spans V (Proc.devRef .tc main_v91) (ix2 b i) : EReal) = span (X b) i := by
  unfold ops_spans
  after_reads_simp
  obtain ⟨hi0, hi1, hi2, hi3⟩ := h b i
  pointwise [span, hi0, hi1, hi2, hi3]
  rfl

/-- Which boxes have a half perimeter of at least their partner's. -/
def longer (P Q : S16x900.Idx → EReal) : S16x900.Idx → BitVec 1 :=
  cmpf (F := Ideal) (φ := .f32) .oge
    (fun i => shapeCast S16x900 (extractStridedSlice S16x900x1 ![0, 0, 0]
      (joinF (F := Ideal) (broadcastInDim S16x900x1 ![0, 1] bcast_S16x900_S16x900x1_0_1 P)
        (broadcastInDim S16x900x1 ![0, 1] bcast_S16x900_S16x900x1_0_1 Q)) slices_S16x900x2_S16x900x1_0_0_0)
      shapeCasts_S16x900x1_S16x900 i)
    (fun i => shapeCast S16x900 (extractStridedSlice S16x900x1 ![0, 0, 1]
      (joinF (F := Ideal) (broadcastInDim S16x900x1 ![0, 1] bcast_S16x900_S16x900x1_0_1 P)
        (broadcastInDim S16x900x1 ![0, 1] bcast_S16x900_S16x900x1_0_1 Q)) slices_S16x900x2_S16x900x1_0_0_1)
      shapeCasts_S16x900x1_S16x900 i)

/-- The pairs as they are where the mask holds, turned around elsewhere. -/
def turned (M : S16x900.Idx → BitVec 1) (J : S16x900x2.Idx → BitVec 32) : S16x900x2.Idx → BitVec 32 :=
  select (broadcastInDim S16x900x2 ![0, 1, 2] bcast_S16x900x1_S16x900x2_0_1_2
    (broadcastInDim S16x900x1 ![0, 1] bcast_S16x900_S16x900x1_0_1 M)) J (Host.reverse [2] J)

/-- The last list leaves the pairs turned by the half perimeters. -/
theorem ordered_eq : StableHlo.after ops_ordered V (Proc.devRef .tc main_v105)
    = turned (longer (V (Proc.devRef .tc main_v91)) (V (Proc.devRef .tc main_v94))) (V (Proc.devRef .tc main_v78)) := by
  unfold ops_ordered
  after_reads_simp
  rfl

/-- The comparison of one box with its partner. -/
theorem longer_at (P Q : S16x900.Idx → EReal) : longer P Q (ix2 b i) = BitVec.ofBool (decide (Q (ix2 b i) ≤ P (ix2 b i))) := by
  pointwise [longer, joinF]

/-- The pairs in order: the first entry. -/
theorem turned_0 (M : S16x900.Idx → BitVec 1) (J : S16x900x2.Idx → BitVec 32) :
    turned M J (ix3 b i 0) = Scalar.select (M (ix2 b i)) (J (ix3 b i 0)) (J (ix3 b i 1)) := by
  pointwise [turned]
  rfl

/-- The pairs in order: the second entry. -/
theorem turned_1 (M : S16x900.Idx → BitVec 1) (J : S16x900x2.Idx → BitVec 32) :
    turned M J (ix3 b i 1) = Scalar.select (M (ix2 b i)) (J (ix3 b i 1)) (J (ix3 b i 0)) := by
  pointwise [turned]
  rfl

/-- The places to read at, negative ones wrapped around. -/
def wrapped (I : S16x900.Idx → BitVec 32) : S16x900.Idx → BitVec 32 :=
  select (cmpi .slt I (broadcastInDim S16x900 ![] bcast_S_S16x900 (constantI S_ 32 0#32)))
    (addi I (broadcastInDim S16x900 ![] bcast_S_S16x900 (constantI S_ 32 900#32))) I

/-- The places as a column. -/
def column (I : S16x900.Idx → BitVec 32) : S16x900x1.Idx → BitVec 32 :=
  fun i => shapeCast S16x900x1 (wrapped I) shapeCasts_S16x900_S16x900x1 i

/-- Which places lie inside. -/
def inside (I : S16x900.Idx → BitVec 32) : S16x900x1.Idx → BitVec 1 :=
  andi (cmpi .sge (column I) (broadcastInDim S16x900x1 ![] bcast_S_S16x900x1 (constantI S_ 32 0#32)))
    (cmpi .sle (column I) (broadcastInDim S16x900x1 ![0, 1, 2] bcast_S1x1x1_S16x900x1_0_1_2
      (broadcastInDim S1x1x1 ![2] bcast_S1_S1x1x1_2 (constantI S1 32 899#32))))

/-- The values at the places. -/
def gathered (P : S16x900.Idx → EReal) (I : S16x900.Idx → BitVec 32) : S16x900.Idx → EReal :=
  select (Host.reduce IntOp.andi (inside I) (constantI S_ 1 1#1) reducesTo_S16x900x1_S16x900_d2 h_S_)
    (Host.gather gather_S16x900_S16x900x1_S16x900_n_1_0_0_1_2_11 P (column I))
    (broadcastInDim S16x900 ![] bcast_S_S16x900 (constant (F := Ideal) S_ .f32 0x7FC00000#32))

/-- The partners' half perimeters are the values at the places. -/
theorem taken_eq : StableHlo.after ops_taken V (Proc.devRef .tc main_v94)
    = gathered (V (Proc.devRef .tc main_v91)) (V (Proc.devRef .tc main_v93)) := by
  unfold ops_taken
  after_reads_simp
  rfl

variable (P : S16x900.Idx → EReal) (I : S16x900.Idx → BitVec 32) (n : Fin 900)

/-- The word of a place inside is not negative, so it is kept. -/
theorem place_kept (n : Nat) (h : n < 900) : Scalar.select (IntOp.cmpi .slt (BitVec.ofNat 32 n) 0#32)
    (IntOp.addi (BitVec.ofNat 32 n) 900#32) (BitVec.ofNat 32 n) = BitVec.ofNat 32 n := by
  have hs : IntOp.cmpi .slt (BitVec.ofNat 32 n) 0#32 = 0#1 := by
    have hn : ¬ (n : ℤ) < 0 := by omega
    simp [IntOp.cmpi, BitVec.slt, toInt_place n (Nat.le_of_lt h), hn]
  rw [hs]; rfl

/-- The word of a place inside lies between zero and the last place. -/
theorem place_inside (n : Nat) (h : n < 900) : IntOp.andi (IntOp.cmpi .sge (BitVec.ofNat 32 n) 0#32)
    (IntOp.cmpi .sle (BitVec.ofNat 32 n) 899#32) = 1#1 := by
  have h9 : (899#32).toInt = 899 := by decide
  have h1 : n ≤ 899 := by omega
  simp [IntOp.cmpi, IntOp.andi, BitVec.sle, toInt_place n (Nat.le_of_lt h), h9, h1]

/-- A place inside is not wrapped. -/
theorem column_at (hn : I (ix2 b i) = BitVec.ofNat 32 n.val) : column I (ix3 b i 0) = BitVec.ofNat 32 n.val := by
  pointwise [column, wrapped, hn]
  exact place_kept n.val n.isLt

/-- A place inside is found inside. -/
theorem inside_at (hn : I (ix2 b i) = BitVec.ofNat 32 n.val) : inside I (ix3 b i 0) = 1#1 := by
  have hc := column_at b i I n hn
  pointwise [inside, hc]
  exact place_inside n.val n.isLt

/-- An entry of a column of places belongs to the box its first two coordinates name. -/
theorem drop_col (k : S16x900x1.Idx) (h : reducesTo_S16x900x1_S16x900_d2.drop k = ix2 b i) : k = ix3 b i 0 := by
  have h0 : k 0 = b := congrFun h 0
  have h1 : k 1 = i := congrFun h 1
  funext a
  match a with
  | ⟨0, _⟩ => exact h0
  | ⟨1, _⟩ => exact h1
  | ⟨2, _⟩ => exact Subsingleton.elim (α := Fin 1) _ _

/-- A conjunction of true words is true. -/
theorem all_true {α : Type} (f : α → BitVec 1) (L : List α) (h : ∀ a ∈ L, f a = 1#1) :
    L.foldl (fun r a => IntOp.andi r (f a)) 1#1 = 1#1 := by
  induction L with
  | nil => rfl
  | cons a L ih =>
    rw [List.foldl_cons, h a (List.mem_cons_self)]
    exact ih fun c hc => h c (List.mem_cons_of_mem _ hc)

/-- The gather reads the row's value at the place. -/
theorem gather_at (hc : column I (ix3 b i 0) = BitVec.ofNat 32 n.val) :
    Host.gather gather_S16x900_S16x900x1_S16x900_n_1_0_0_1_2_11 P (column I) (ix2 b i) = P (ix2 b n) := by
  unfold Host.gather
  congr 1
  funext a
  refine Fin.ext ?_
  show gather_S16x900_S16x900x1_S16x900_n_1_0_0_1_2_11.start (ix2 b i) (column I) a
    + gather_S16x900_S16x900x1_S16x900_n_1_0_0_1_2_11.batchCoord (ix2 b i) a
    + gather_S16x900_S16x900x1_S16x900_n_1_0_0_1_2_11.offCoord (ix2 b i) a = _
  have ha : a = (0 : Fin 2) ∨ a = (1 : Fin 2) := by
    match a with
    | ⟨0, _⟩ => exact Or.inl rfl
    | ⟨1, _⟩ => exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x900_S16x900x1_S16x900_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x900_S16x900x1_S16x900_n_1_0_0_1_2_11.startIndexMap from List.mem_singleton.mpr rfl)]
    have hsi : gather_S16x900_S16x900x1_S16x900_n_1_0_0_1_2_11.siIdx (ix2 b i)
        ⟨List.idxOf (1 : Fin 2) gather_S16x900_S16x900x1_S16x900_n_1_0_0_1_2_11.startIndexMap,
          List.idxOf_lt_length_iff.2 (List.mem_singleton.mpr rfl)⟩ = ix3 b i 0 := by
      funext d; refine Fin.ext ?_
      match d with
      | ⟨0, _⟩ => rfl
      | ⟨1, _⟩ => rfl
      | ⟨2, _⟩ => rfl
    rw [hsi, hc]
    have := toInt_place n.val (Nat.le_of_lt n.isLt)
    rw [this]
    show min (n.val : ℤ).toNat (900 - 1) = n.val
    have := n.isLt
    rw [Int.toNat_natCast]
    omega

/-- The values at the places, at one place inside. -/
theorem gathered_at (hn : I (ix2 b i) = BitVec.ofNat 32 n.val) : gathered P I (ix2 b i) = P (ix2 b n) := by
  have hm : Host.reduce IntOp.andi (inside I) (constantI S_ 1 1#1) reducesTo_S16x900x1_S16x900_d2 h_S_ (ix2 b i) = 1#1 := by
    rw [Host.reduce_eq_foldl]
    refine all_true _ _ fun k hk => ?_
    rw [drop_col b i k (by simpa using (List.mem_filter.1 hk).2)]
    exact inside_at b i I n hn
  unfold gathered
  show Scalar.select (Host.reduce IntOp.andi (inside I) (constantI S_ 1 1#1) reducesTo_S16x900x1_S16x900_d2 h_S_ (ix2 b i)) _ _ = _
  rw [hm]
  exact gather_at b i P I n (column_at b i I n hn)

/-- The partners' half perimeters, from the partners. -/
theorem taken_at (hn : (V (Proc.devRef .tc main_v93) (ix2 b i) : BitVec 32) = BitVec.ofNat 32 n.val) :
    (StableHlo.after ops_taken V (Proc.devRef .tc main_v94) (ix2 b i) : EReal) = V (Proc.devRef .tc main_v91) (ix2 b n) :=
  (congrFun (taken_eq V) (ix2 b i)).trans (gathered_at b i _ _ n hn)

end Cert.ReferenceIdeal.Value

end
-- ==== Proof.RefFinal.lean ====
/- The reference's result: the pairs of every batch. -/
module

public import proofs.«01_k».proof.Proof.RefKept
public import proofs.«01_k».proof.Proof.RefPartner
public import proofs.«01_k».proof.Proof.RefOrder

@[expose] public section

set_option maxRecDepth 65536

noncomputable section

namespace Cert.ReferenceIdeal.Value

open Cert.ReferenceIdeal Cert.ReferenceIdeal.Gen Idealize.ShloMosaic Idealize.ShloMosaic.TcCoe Idealize.SL.Sem Cert.Pairs
open Cert.KernelIdeal.Value (batch pairsOf)

variable (V : Valuation τ sig (Elt Ideal))

/-- Choosing by the comparison of two half perimeters. -/
theorem select_le (P Q : EReal) (a b : BitVec 32) :
    Scalar.select (BitVec.ofBool (decide (Q ≤ P))) a b = if Q ≤ P then a else b := by
  by_cases h : Q ≤ P <;> simp [Scalar.select, h]

/-- The reference's result array is the pairs of its boxes. -/
theorem ended_v105 : (ended V (Proc.devRef .tc main_v105) : S16x900x2.Idx → BitVec 32)
    = pairsOf (V (Proc.devRef .tc main_arg3)) := by
  have hall : ∀ (b : Fin 16) (i : Fin 900) (c : Fin 2), (ended V (Proc.devRef .tc main_v105) (ix3 b i c) : BitVec 32)
      = pair (batch (V (Proc.devRef .tc main_arg3)) b) i c := by
    intro b i c
    unfold ended
    have c2 := corners V
    generalize StableHlo.after ops_boxes (StableHlo.after ops_corners V) = V2 at c2 ⊢
    generalize batch (V (Proc.devRef .tc main_arg3)) = X at c2 ⊢
    have h44 := inters_at (V := V2) (h := c2)
    have c3 : Corners (StableHlo.after ops_inters V2) X := by
      unfold Corners; rw [kept (W := wrote_inters) rfl _ (by decide)]; exact c2
    generalize StableHlo.after ops_inters V2 = V3 at h44 c3 ⊢
    have h71 := fun b i j => overlaps_at b i j c3 fun b i j => h44 b i j
    have c4 : Corners (StableHlo.after ops_overlaps V3) X := by
      unfold Corners; rw [kept (W := wrote_overlaps) rfl _ (by decide)]; exact c3
    generalize StableHlo.after ops_overlaps V3 = V4 at h71 c4 ⊢
    have h74 := places_at V4
    have h75 := fun b q => partners_at V4 b q h71
    have c5 : Corners (StableHlo.after ops_partners V4) X := by
      unfold Corners; rw [kept (W := wrote_partners) rfl _ (by decide)]; exact c4
    generalize StableHlo.after ops_partners V4 = V5 at h74 h75 c5 ⊢
    have hf := fun b i => (spans_fst V5 b i).trans (h74 b i)
    have hs := fun b i => (spans_snd V5 b i).trans (h75 b i)
    have hp := fun b i => (spans_partner V5 b i).trans (h75 b i)
    have hP := fun b i => spans_at V5 b i c5
    generalize StableHlo.after ops_spans V5 = V6 at hf hs hp hP ⊢
    have ht := (taken_at V6 b i _ (hp b i)).trans (hP b _)
    have e : ∀ c, (StableHlo.after ops_ordered (StableHlo.after ops_taken V6) (Proc.devRef .tc main_v105) (ix3 b i c) : BitVec 32)
        = turned (longer (V6 (Proc.devRef .tc main_v91)) (StableHlo.after ops_taken V6 (Proc.devRef .tc main_v94)))
            (V6 (Proc.devRef .tc main_v78)) (ix3 b i c) := fun c => by
      rw [ordered_eq, kept (W := wrote_taken) rfl V6 (r := main_v91) (by decide),
        kept (W := wrote_taken) rfl V6 (r := main_v78) (by decide)]
    have h10 : ¬ (1 : Fin 2) = 0 := by decide
    rw [e]
    unfold pair
    have h01 : c = 0 ∨ c = 1 := by
      match c with
      | ⟨0, _⟩ => exact Or.inl rfl
      | ⟨1, _⟩ => exact Or.inr rfl
    rcases h01 with rfl | rfl
    · rw [turned_0, longer_at, select_le, ht, hP, hf, hs, if_pos rfl, if_pos rfl]
    · rw [turned_1, longer_at, select_le, ht, hP, hf, hs, if_neg h10, if_neg h10]
  funext y
  have hy : y = ix3 (y 0) (y 1) (y 2) := by
    funext a
    match a with
    | ⟨0, _⟩ => rfl
    | ⟨1, _⟩ => rfl
    | ⟨2, _⟩ => rfl
  unfold pairsOf
  exact (congrArg (ended V (Proc.devRef .tc main_v105)) hy).trans (hall (y 0) (y 1) (y 2))

end Cert.ReferenceIdeal.Value

end
-- ==== Proof.Equation.lean ====
/- The equation of the two programs, and the reference's frame. -/
module

public import proofs.«01_k».proof.Proof.RefFinal
public import proofs.«01_k».proof.Proof.Final
public import Idealize.ShloMosaic.Adequacy
public import Idealize.ShloMosaic.Init

@[expose] public section

set_option maxRecDepth 65536

noncomputable section

namespace Cert.Pairs

open Idealize.ShloMosaic Idealize.SL.Sem

/-- The reference runs, ends with its semaphores at zero and leaves its arguments as they were. -/
theorem reference_frame : Cert.quiescent_ReferenceIdeal := by
  intro m g _
  refine (θ_run _ _ _).mono (fun r h => ⟨fun c => ⟨?_, ?_, ?_, ?_⟩, ?_⟩) (Cert.ReferenceIdeal.Value.ran (F := Ideal) m g)
  · exact (h c _).trans (Cert.ReferenceIdeal.Value.ended_kept _ (by decide))
  · exact (h c _).trans (Cert.ReferenceIdeal.Value.ended_kept _ (by decide))
  · exact (h c _).trans (Cert.ReferenceIdeal.Value.ended_kept _ (by decide))
  · exact (h c _).trans (Cert.ReferenceIdeal.Value.ended_kept _ (by decide))
  · exact sem_eq_zero_of_no_sems (by decide) r.2

/-- The kernel and the reference leave the same pairs. -/
theorem same_pairs : Cert.algebraic_KernelIdeal_ReferenceIdeal := by
  intro m g m' g' _ heq
  refine ⟨fun c => Cert.KernelIdeal.Value.pairsOf (m ((c.tc : Thread Cert.KernelIdeal.nD Cert.KernelIdeal.τ).loc Cert.KernelIdeal.main_arg3)), ?_, ?_⟩
  · refine (θ_run _ _ _).mono (fun r h c => ?_) (Cert.KernelIdeal.Value.run_blocks (F := Ideal) m g)
    obtain ⟨h0, h1⟩ := h c
    exact ⟨h0.trans (Cert.KernelIdeal.Value.final m c), h1⟩
  · refine (θ_run _ _ _).mono (fun r h c => ⟨?_, ?_, ?_, ?_, ?_⟩) (Cert.ReferenceIdeal.Value.ran (F := Ideal) m' g')
    · refine (h c _).trans ((Cert.ReferenceIdeal.Value.ended_v105 _).trans ?_)
      exact congrArg Cert.KernelIdeal.Value.pairsOf (heq c).2.2.2
    · exact (h c _).trans (Cert.ReferenceIdeal.Value.ended_kept _ (by decide))
    · exact (h c _).trans (Cert.ReferenceIdeal.Value.ended_kept _ (by decide))
    · exact (h c _).trans (Cert.ReferenceIdeal.Value.ended_kept _ (by decide))
    · exact (h c _).trans (Cert.ReferenceIdeal.Value.ended_kept _ (by decide))

end Cert.Pairs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims: the three frames, the idealization, and the equation of kernel and reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Pairs.reference_frame,
  trivial, Cert.Pairs.same_pairs⟩

end Cert.Proof

end
